-- ==== Defs.lean ====
def Pre_Kernel [hPre_rows_in_bounds : Cert.Pre_rows_in_bounds.Facts] (m : (ℓ : Loc Cert.Kernel.nD Cert.Kernel.τ Cert.Kernel.sig) → Buf (Elt Bits) ℓ) : Prop :=
  ∀ c : Dev Cert.Kernel.nD,
    (Cert.Pre_rows_in_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_in_bounds : Cert.Pre_rows_in_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_bounds [hPre_rows_in_bounds : Cert.Pre_rows_in_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_rows_in_bounds : Cert.Pre_rows_in_bounds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_in_bounds : Cert.Pre_rows_in_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_bounds [hReferenceIdeal : Cert.ReferenceIdeal.Facts] [hPre_rows_in_bounds : Cert.Pre_rows_in_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_bounds : Cert.Pre_rows_in_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_rows_in_bounds : Cert.Pre_rows_in_bounds.Facts),
    quiescent_Kernel (hKernel := hKernel) (hPre_rows_in_bounds := hPre_rows_in_bounds)
    ∧ quiescent_KernelIdeal (hKernelIdeal := hKernelIdeal) (hPre_rows_in_bounds := hPre_rows_in_bounds)
    ∧ quiescent_ReferenceIdeal (hReferenceIdeal := hReferenceIdeal)
    ∧ quiescent_ReferenceIdeal_pre_rows_in_bounds (hReferenceIdeal := hReferenceIdeal) (hPre_rows_in_bounds := hPre_rows_in_bounds)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_rows_in_bounds := hPre_rows_in_bounds)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_rows_in_bounds.lean ====
abbrev S64 : Shape := ⟨1, ![64]⟩
abbrev S163840x2048 : Shape := ⟨2, ![163840, 2048]⟩
abbrev S64x2048x512 : Shape := ⟨3, ![64, 2048, 512]⟩
abbrev S64x512x2048 : Shape := ⟨3, ![64, 512, 2048]⟩
abbrev S_ : Shape := ⟨0, ![]⟩

class Facts : Prop where
  reducesTo_S64_S_d0 : S64.ReducesTo [0] S_
  h_S_ : 0 < S_.numel
  bcast_S_S64 : S_.BroadcastsInDim S64 (![] : Fin 0 → Fin S64.rank)

variable [Facts]

def fn {F : FTy → Type} [FloatOps F] (main_arg0 : IVec S64 32) (main_arg1 : FVec F S163840x2048 .bf16) (main_arg2 : FVec F S64x2048x512 .f32) (main_arg3 : FVec F S64x2048x512 .f32) (main_arg4 : FVec F S64x512x2048 .f32) : IVec S64 1 :=
  let main_c : IVec S_ 32 := constantI S_ 32 0#32
  let main_v0 : IVec S_ 32 := (fun x v => Host.reduce IntOp.addi x v reducesTo_S64_S_d0 h_S_) main_arg0 main_c
  let main_c_0 : IVec S_ 32 := constantI S_ 32 0#32
  let main_v1 : IVec S64 32 := broadcastInDim S64 ![] bcast_S_S64 main_c_0
  let main_v2 : IVec S64 1 := cmpi .sge main_arg0 main_v1
  let main_c_1 : IVec S_ 32 := constantI S_ 32 131072#32
  let main_v3 : IVec S64 32 := broadcastInDim S64 ![] bcast_S_S64 main_c_1
  let main_v4 : IVec S64 1 := cmpi .sle main_arg0 main_v3
  let main_v5 : IVec S64 1 := andi main_v2 main_v4
  let main_c_2 : IVec S_ 32 := constantI S_ 32 1#32
  let main_v6 : IVec S_ 1 := cmpi .sge main_v0 main_c_2
  let main_v7 : IVec S64 1 := broadcastInDim S64 ![] bcast_S_S64 main_v6
  let main_v8 : IVec S64 1 := andi main_v5 main_v7
  let main_c_3 : IVec S_ 32 := constantI S_ 32 131072#32
  let main_v9 : IVec S_ 1 := cmpi .sle main_v0 main_c_3
  let main_v10 : IVec S64 1 := broadcastInDim S64 ![] bcast_S_S64 main_v9
  let main_v11 : IVec S64 1 := andi main_v8 main_v10
  main_v11
-- ==== Kernel.lean ====
abbrev S64 : Shape := ⟨1, ![64]⟩
abbrev S163840x2048 : Shape := ⟨2, ![163840, 2048]⟩
abbrev S64x2048x512 : Shape := ⟨3, ![64, 2048, 512]⟩
abbrev S64x512x2048 : Shape := ⟨3, ![64, 512, 2048]⟩
abbrev S_ : Shape := ⟨0, ![]⟩
abbrev S1 : Shape := ⟨1, ![1]⟩
abbrev S320 : Shape := ⟨1, ![320]⟩
abbrev S1x64 : Shape := ⟨2, ![1, 64]⟩
abbrev S320x1 : Shape := ⟨2, ![320, 1]⟩
abbrev S320x64 : Shape := ⟨2, ![320, 64]⟩
abbrev S319 : Shape := ⟨1, ![319]⟩
abbrev S512x2048 : Shape := ⟨2, ![512, 2048]⟩
abbrev S2x2048x512 : Shape := ⟨3, ![2, 2048, 512]⟩
abbrev S2x512x2048 : Shape := ⟨3, ![2, 512, 2048]⟩
abbrev S2048x512 : Shape := ⟨2, ![2048, 512]⟩
abbrev S2 : Shape := ⟨1, ![2]⟩
abbrev S1x2048x512 : Shape := ⟨3, ![1, 2048, 512]⟩
abbrev S1x512x2048 : Shape := ⟨3, ![1, 512, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 147
  | .vmem => 10
  | .smem => 7
  | _ => 0

abbrev hbmTy0_0 (i : Nat) : BufTy := match i % 128 with
  | 0 => ⟨S64, .i32⟩
  | 1 => ⟨S163840x2048, .bf16⟩
  | 2 => ⟨S64x2048x512, .f32⟩
  | 3 => ⟨S64x2048x512, .f32⟩
  | 4 => ⟨S64x512x2048, .f32⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S_, .i32⟩
  | 13 => ⟨S64, .i32⟩
  | 14 => ⟨S64, .i32⟩
  | 15 => ⟨S64, .i32⟩
  | 16 => ⟨S_, .i32⟩
  | 17 => ⟨S64, .i32⟩
  | 18 => ⟨S64, .i1⟩
  | 19 => ⟨S64, .i32⟩
  | 20 => ⟨S64, .i32⟩
  | 21 => ⟨S_, .i32⟩
  | 22 => ⟨S64, .i32⟩
  | 23 => ⟨S64, .i1⟩
  | 24 => ⟨S64, .i1⟩
  | 25 => ⟨S_, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S_, .i32⟩
  | 34 => ⟨S64, .i32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i32⟩
  | 48 => ⟨S_, .i32⟩
  | 49 => ⟨S_, .i32⟩
  | 50 => ⟨S320, .i32⟩
  | 51 => ⟨S_, .i32⟩
  | 52 => ⟨S_, .i32⟩
  | 53 => ⟨S320, .i32⟩
  | 54 => ⟨S1x64, .i32⟩
  | 55 => ⟨S_, .i32⟩
  | 56 => ⟨S320, .i32⟩
  | 57 => ⟨S320, .i32⟩
  | 58 => ⟨S320x1, .i32⟩
  | 59 => ⟨S320x64, .i32⟩
  | 60 => ⟨S320x64, .i32⟩
  | 61 => ⟨S320x64, .i1⟩
  | 62 => ⟨S320x64, .i32⟩
  | 63 => ⟨S_, .i32⟩
  | 64 => ⟨S320, .i32⟩
  | 65 => ⟨S_, .i32⟩
  | 66 => ⟨S320, .i32⟩
  | 67 => ⟨S320, .i32⟩
  | 68 => ⟨S320, .i32⟩
  | 69 => ⟨S320, .i1⟩
  | 70 => ⟨S_, .i32⟩
  | 71 => ⟨S320, .i32⟩
  | 72 => ⟨S320, .i1⟩
  | 73 => ⟨S1, .i32⟩
  | 74 => ⟨S319, .i32⟩
  | 75 => ⟨S320, .i32⟩
  | 76 => ⟨S320, .i1⟩
  | 77 => ⟨S320, .i1⟩
  | 78 => ⟨S320, .i1⟩
  | 79 => ⟨S_, .i32⟩
  | 80 => ⟨S_, .i32⟩
  | 81 => ⟨S320, .i32⟩
  | 82 => ⟨S_, .i32⟩
  | 83 => ⟨S320, .i32⟩
  | 84 => ⟨S320, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S320, .i32⟩
  | 92 => ⟨S320, .i32⟩
  | 93 => ⟨S_, .i32⟩
  | 94 => ⟨S320, .i32⟩
  | 95 => ⟨S320, .i1⟩
  | 96 => ⟨S_, .i32⟩
  | 97 => ⟨S320, .i32⟩
  | 98 => ⟨S320, .i1⟩
  | 99 => ⟨S_, .i32⟩
  | 100 => ⟨S_, .i1⟩
  | 101 => ⟨S320, .i1⟩
  | 102 => ⟨S320, .i1⟩
  | 103 => ⟨S320, .i1⟩
  | 104 => ⟨S320, .i32⟩
  | 105 => ⟨S320, .i32⟩
  | 106 => ⟨S_, .i32⟩
  | 107 => ⟨S320, .i32⟩
  | 108 => ⟨S320, .i1⟩
  | 109 => ⟨S_, .i32⟩
  | 110 => ⟨S320, .i32⟩
  | 111 => ⟨S320, .i32⟩
  | 112 => ⟨S320, .i32⟩
  | 113 => ⟨S320x1, .i32⟩
  | 114 => ⟨S320, .i32⟩
  | 115 => ⟨S_, .i32⟩
  | 116 => ⟨S_, .i32⟩
  | 117 => ⟨S320, .i32⟩
  | 118 => ⟨S320, .i32⟩
  | 119 => ⟨S320, .i32⟩
  | 120 => ⟨S_, .i32⟩
  | 121 => ⟨S320, .i32⟩
  | 122 => ⟨S320, .i1⟩
  | 123 => ⟨S320, .i32⟩
  | 124 => ⟨S320, .i32⟩
  | 125 => ⟨S_, .i32⟩
  | 126 => ⟨S320, .i32⟩
  | 127 => ⟨S320, .i1⟩
  | _ => ⟨S64, .i32⟩

abbrev hbmTy0_1 (i : Nat) : BufTy := match i % 128 with
  | 0 => ⟨S320, .i1⟩
  | 1 => ⟨S_, .i32⟩
  | 2 => ⟨S320, .i32⟩
  | 3 => ⟨S320, .i32⟩
  | 4 => ⟨S320, .i32⟩
  | 5 => ⟨S320, .i32⟩
  | 6 => ⟨S320, .i1⟩
  | 7 => ⟨S_, .i32⟩
  | 8 => ⟨S320, .i32⟩
  | 9 => ⟨S320, .i32⟩
  | 10 => ⟨S_, .i32⟩
  | 11 => ⟨S320, .i32⟩
  | 12 => ⟨S320, .i1⟩
  | 13 => ⟨S_, .i32⟩
  | 14 => ⟨S320, .i32⟩
  | 15 => ⟨S320, .i32⟩
  | 16 => ⟨S320, .i32⟩
  | 17 => ⟨S320x1, .i32⟩
  | 18 => ⟨S163840x2048, .bf16⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S320, .i32⟩
  | .local _ .smem, ⟨1, _⟩ => ⟨S320, .i32⟩
  | .local _ .smem, ⟨2, _⟩ => ⟨S320, .i32⟩
  | .local _ .smem, ⟨3, _⟩ => ⟨S320, .i32⟩
  | .local _ .smem, ⟨4, _⟩ => ⟨S320, .i32⟩
  | .local _ .smem, ⟨5, _⟩ => ⟨S320, .i32⟩
  | .local _ .smem, ⟨6, _⟩ => ⟨S1, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_v15 : Ref sig .tc := ⟨.hbm, 54, rfl⟩
abbrev main_c_5 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_6 : Ref sig .tc := ⟨.hbm, 63, rfl⟩
abbrev main_v23 : Ref sig .tc := ⟨.hbm, 64, rfl⟩
abbrev main_c_7 : Ref sig .tc := ⟨.hbm, 65, rfl⟩
abbrev main_v24 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_8 : Ref sig .tc := ⟨.hbm, 70, rfl⟩
abbrev main_v29 : Ref sig .tc := ⟨.hbm, 71, rfl⟩
abbrev main_v30 : Ref sig .tc := ⟨.hbm, 72, rfl⟩
abbrev main_call3_v0 : Ref sig .tc := ⟨.hbm, 73, rfl⟩
abbrev main_call3_v1 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_call4_call0_c : Ref sig .tc := ⟨.hbm, 79, rfl⟩
abbrev main_call4_call0_v0 : Ref sig .tc := ⟨.hbm, 80, rfl⟩
abbrev main_v36 : Ref sig .tc := ⟨.hbm, 81, rfl⟩
abbrev main_c_9 : Ref sig .tc := ⟨.hbm, 82, rfl⟩
abbrev main_v37 : Ref sig .tc := ⟨.hbm, 83, rfl⟩
abbrev main_v38 : Ref sig .tc := ⟨.hbm, 84, rfl⟩
abbrev main_c_10 : Ref sig .tc := ⟨.hbm, 85, rfl⟩
abbrev main_call5_v0 : Ref sig .tc := ⟨.hbm, 86, rfl⟩
abbrev main_call5_c : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_c_1 : Ref sig .tc := ⟨.hbm, 93, rfl⟩
abbrev main_call5_v5 : Ref sig .tc := ⟨.hbm, 94, rfl⟩
abbrev main_call5_v6 : Ref sig .tc := ⟨.hbm, 95, rfl⟩
abbrev main_call5_c_2 : Ref sig .tc := ⟨.hbm, 96, rfl⟩
abbrev main_call5_v7 : Ref sig .tc := ⟨.hbm, 97, rfl⟩
abbrev main_call5_v8 : Ref sig .tc := ⟨.hbm, 98, rfl⟩
abbrev main_call5_c_3 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_c_11 : Ref sig .tc := ⟨.hbm, 106, rfl⟩
abbrev main_v40 : Ref sig .tc := ⟨.hbm, 107, rfl⟩
abbrev main_v41 : Ref sig .tc := ⟨.hbm, 108, rfl⟩
abbrev main_c_12 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_c_13 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_c : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_c_0 : Ref sig .tc := ⟨.hbm, 129, rfl⟩
abbrev main_call6_v12 : Ref sig .tc := ⟨.hbm, 130, rfl⟩
abbrev main_call6_v13 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_c_14 : Ref sig .tc := ⟨.hbm, 135, rfl⟩
abbrev main_v51 : Ref sig .tc := ⟨.hbm, 136, rfl⟩
abbrev main_v52 : Ref sig .tc := ⟨.hbm, 137, rfl⟩
abbrev main_c_15 : Ref sig .tc := ⟨.hbm, 138, rfl⟩
abbrev main_v53 : Ref sig .tc := ⟨.hbm, 139, rfl⟩
abbrev main_v54 : Ref sig .tc := ⟨.hbm, 140, rfl⟩
abbrev main_c_16 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v61 : Ref sig .tc := ⟨.hbm, 146, rfl⟩
abbrev main_v14 : Ref sig .tc := ⟨.smem, 0, rfl⟩
abbrev main_v25 : Ref sig .tc := ⟨.smem, 1, rfl⟩
abbrev main_v35 : Ref sig .tc := ⟨.smem, 2, rfl⟩
abbrev main_v39 : Ref sig .tc := ⟨.smem, 3, rfl⟩
abbrev main_v59 : Ref sig .tc := ⟨.smem, 4, rfl⟩
abbrev main_v50 : Ref sig .tc := ⟨.smem, 5, rfl⟩
abbrev main_v60 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![320], ![false]⟩

abbrev pre0 : Pipeline.Prefetch sig := ⟨7, ![main_v14.idx, main_v25.idx, main_v35.idx, main_v39.idx, main_v59.idx, main_v50.idx, main_v60.idx], fun | 0 => main_v14.names | 1 => main_v25.names | 2 => main_v35.names | 3 => main_v39.names | 4 => main_v59.names | 5 => main_v50.names | 6 => main_v60.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off2 (v25 : BitVec 32) : Fin 3 → Nat :=
  let c0_i32_13 : BitVec 32 := 0#32
  let c0_i32_14 : BitVec 32 := 0#32
  ![v25.toNat, 0, 0]

def k0_off3 (v25 : BitVec 32) : Fin 3 → Nat :=
  let c0_i32_25 : BitVec 32 := 0#32
  let c0_i32_26 : BitVec 32 := 0#32
  ![v25.toNat, 0, 0]

def k0_chk1 (i : grid0.Coords) (v25 : BitVec 32) : Prop :=
  (∀ (k0_h1 : k0_cond1 i = 1#1), ∀ a, (k0_off2 v25) a + S1x2048x512.size a ≤ S64x2048x512.size a) ∧
  (∀ (k0_h1 : k0_cond1 i = 1#1), ∀ a, (k0_off3 v25) a + S1x512x2048.size a ≤ S64x512x2048.size a)
theorem k0_off2_inb : ∀ (i : grid0.Coords) (v25 : BitVec 32) (k0_hw1 : k0_chk1 i v25), ∀ (k0_h1 : k0_cond1 i = 1#1), ∀ a, (k0_off2 v25) a + S1x2048x512.size a ≤ S64x2048x512.size a := fun i v25 k0_hw1 k0_h1 => k0_hw1.1 k0_h1
theorem k0_off3_inb : ∀ (i : grid0.Coords) (v25 : BitVec 32) (k0_hw1 : k0_chk1 i v25), ∀ (k0_h1 : k0_cond1 i = 1#1), ∀ a, (k0_off3 v25) a + S1x512x2048.size a ≤ S64x512x2048.size a := fun i v25 k0_hw1 k0_h1 => k0_hw1.2 k0_h1

def k0_off4 (i : grid0.Coords) : Fin 1 → Nat :=
  let arg0 : BitVec 32 := BitVec.ofNat 32 (i 0).val
  let v25 : Index := Scalar.indexCast arg0
  ![v25.toNat]
def k0_off5 (v26 : BitVec 32) : Fin 1 → Nat :=
  ![v26.toNat]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v26 : BitVec 32) : Fin 3 → Nat :=
  let c0_i32_8 : BitVec 32 := 0#32
  let c0_i32_9 : BitVec 32 := 0#32
  ![v26.toNat, 0, 0]
def k0_off7 (v28 : BitVec 32) : Fin 3 → Nat :=
  let c0_i32_10 : BitVec 32 := 0#32
  let c0_i32_11 : BitVec 32 := 0#32
  ![v28.toNat, 0, 0]

def k0_off8 (v26 : BitVec 32) : Fin 1 → Nat :=
  ![v26.toNat]
def k0_off9 (v26 : BitVec 32) : Fin 3 → Nat :=
  let c0_i32_12 : BitVec 32 := 0#32
  let c0_i32_13 : BitVec 32 := 0#32
  ![v26.toNat, 0, 0]
def k0_off10 (v26 : BitVec 32) : Fin 3 → Nat :=
  let c0_i32_16 : BitVec 32 := 0#32
  let c0_i32_17 : BitVec 32 := 0#32
  ![v26.toNat, 0, 0]

def k0_chk2 (v4 : BitVec 32) (v26 : BitVec 32) : Prop :=
  (∀ (k0_h2 : k0_cond2 v4 = 1#1), ∀ a, (k0_off5 v26) a + S1.size a ≤ S2.size a) ∧
  (∀ (k0_h2 : k0_cond2 v4 = 1#1), ∀ a, (k0_off6 v26) a + S1x2048x512.size a ≤ S2x2048x512.size a) ∧
  (∀ (k0_h2 : k0_cond2 v4 = 1#1), ∀ a, (k0_off8 v26) a + S1.size a ≤ S2.size a) ∧
  (∀ (k0_h2 : k0_cond2 v4 = 1#1), ∀ a, (k0_off9 v26) a + S1x2048x512.size a ≤ S2x2048x512.size a) ∧
  (∀ (k0_h2 : k0_cond2 v4 = 1#1), ∀ a, (k0_off10 v26) a + S1x512x2048.size a ≤ S2x512x2048.size a)
theorem k0_off5_inb : ∀ (v4 : BitVec 32) (v26 : BitVec 32) (k0_hw2 : k0_chk2 v4 v26), ∀ (k0_h2 : k0_cond2 v4 = 1#1), ∀ a, (k0_off5 v26) a + S1.size a ≤ S2.size a := fun v4 v26 k0_hw2 k0_h2 => k0_hw2.1 k0_h2
theorem k0_off6_inb : ∀ (v4 : BitVec 32) (v26 : BitVec 32) (k0_hw2 : k0_chk2 v4 v26), ∀ (k0_h2 : k0_cond2 v4 = 1#1), ∀ a, (k0_off6 v26) a + S1x2048x512.size a ≤ S2x2048x512.size a := fun v4 v26 k0_hw2 k0_h2 => k0_hw2.2.1 k0_h2
theorem k0_off8_inb : ∀ (v4 : BitVec 32) (v26 : BitVec 32) (k0_hw2 : k0_chk2 v4 v26), ∀ (k0_h2 : k0_cond2 v4 = 1#1), ∀ a, (k0_off8 v26) a + S1.size a ≤ S2.size a := fun v4 v26 k0_hw2 k0_h2 => k0_hw2.2.2.1 k0_h2
theorem k0_off9_inb : ∀ (v4 : BitVec 32) (v26 : BitVec 32) (k0_hw2 : k0_chk2 v4 v26), ∀ (k0_h2 : k0_cond2 v4 = 1#1), ∀ a, (k0_off9 v26) a + S1x2048x512.size a ≤ S2x2048x512.size a := fun v4 v26 k0_hw2 k0_h2 => k0_hw2.2.2.2.1 k0_h2
theorem k0_off10_inb : ∀ (v4 : BitVec 32) (v26 : BitVec 32) (k0_hw2 : k0_chk2 v4 v26), ∀ (k0_h2 : k0_cond2 v4 = 1#1), ∀ a, (k0_off10 v26) a + S1x512x2048.size a ≤ S2x512x2048.size a := fun v4 v26 k0_hw2 k0_h2 => k0_hw2.2.2.2.2 k0_h2

def k0_off11 (v28 : BitVec 32) : Fin 3 → Nat :=
  let c0_i32_18 : BitVec 32 := 0#32
  let c0_i32_19 : BitVec 32 := 0#32
  ![v28.toNat, 0, 0]

def k0_chk3 (v4 : BitVec 32) (v28 : BitVec 32) : Prop :=
  (∀ (k0_h2 : k0_cond2 v4 = 1#1), ∀ a, (k0_off7 v28) a + S1x2048x512.size a ≤ S64x2048x512.size a) ∧
  (∀ (k0_h2 : k0_cond2 v4 = 1#1), ∀ a, (k0_off11 v28) a + S1x512x2048.size a ≤ S64x512x2048.size a)
theorem k0_off7_inb : ∀ (v4 : BitVec 32) (v28 : BitVec 32) (k0_hw3 : k0_chk3 v4 v28), ∀ (k0_h2 : k0_cond2 v4 = 1#1), ∀ a, (k0_off7 v28) a + S1x2048x512.size a ≤ S64x2048x512.size a := fun v4 v28 k0_hw3 k0_h2 => k0_hw3.1 k0_h2
theorem k0_off11_inb : ∀ (v4 : BitVec 32) (v28 : BitVec 32) (k0_hw3 : k0_chk3 v4 v28), ∀ (k0_h2 : k0_cond2 v4 = 1#1), ∀ a, (k0_off11 v28) a + S1x512x2048.size a ≤ S64x512x2048.size a := fun v4 v28 k0_hw3 k0_h2 => k0_hw3.2 k0_h2

def k0_off12 (i : grid0.Coords) : Fin 1 → Nat :=
  let arg0 : BitVec 32 := BitVec.ofNat 32 (i 0).val
  let v47 : Index := Scalar.indexCast arg0
  ![v47.toNat]
def k0_off13 (i : grid0.Coords) : Fin 1 → Nat :=
  let arg0 : BitVec 32 := BitVec.ofNat 32 (i 0).val
  let v52 : Index := Scalar.indexCast arg0
  ![v52.toNat]
def k0_off14 (v26 : BitVec 32) : Fin 1 → Nat :=
  let c1_i32_22 : BitVec 32 := 1#32
  let v54 : BitVec 32 := Scalar.subi c1_i32_22 v26
  ![v54.toNat]
def k0_cond3 (v48 : BitVec 32) : BitVec 1 :=
  let c1_i32_20 : BitVec 32 := 1#32
  let v49 : BitVec 1 := Scalar.cmpi .eq v48 c1_i32_20
  let v50 : BitVec 32 := Scalar.extui v49
  let c0_i32_21 : BitVec 32 := 0#32
  let v51 : BitVec 1 := Scalar.cmpi .ne v50 c0_i32_21
  v51

def k0_off15 (v26 : BitVec 32) : Fin 3 → Nat :=
  let c1_i32_22 : BitVec 32 := 1#32
  let v54 : BitVec 32 := Scalar.subi c1_i32_22 v26
  let c0_i32_23 : BitVec 32 := 0#32
  let c0_i32_24 : BitVec 32 := 0#32
  ![v54.toNat, 0, 0]
def k0_off16 (v53 : BitVec 32) : Fin 3 → Nat :=
  let c0_i32_25 : BitVec 32 := 0#32
  let c0_i32_26 : BitVec 32 := 0#32
  ![v53.toNat, 0, 0]

def k0_off17 (v26 : BitVec 32) : Fin 1 → Nat :=
  let c1_i32_22 : BitVec 32 := 1#32
  let v54 : BitVec 32 := Scalar.subi c1_i32_22 v26
  ![v54.toNat]
def k0_off18 (v26 : BitVec 32) : Fin 3 → Nat :=
  let c1_i32_22 : BitVec 32 := 1#32
  let v54 : BitVec 32 := Scalar.subi c1_i32_22 v26
  let c0_i32_27 : BitVec 32 := 0#32
  let c0_i32_28 : BitVec 32 := 0#32
  ![v54.toNat, 0, 0]
def k0_off19 (v26 : BitVec 32) : Fin 3 → Nat :=
  let c1_i32_22 : BitVec 32 := 1#32
  let v54 : BitVec 32 := Scalar.subi c1_i32_22 v26
  let c0_i32_31 : BitVec 32 := 0#32
  let c0_i32_32 : BitVec 32 := 0#32
  ![v54.toNat, 0, 0]

def k0_chk4 (v4 : BitVec 32) (v26 : BitVec 32) (v48 : BitVec 32) : Prop :=
  (∀ (k0_h2 : k0_cond2 v4 = 1#1), ∀ (k0_h3 : k0_cond3 v48 = 1#1), ∀ a, (k0_off14 v26) a + S1.size a ≤ S2.size a) ∧
  (∀ (k0_h2 : k0_cond2 v4 = 1#1), ∀ (k0_h3 : k0_cond3 v48 = 1#1), ∀ a, (k0_off15 v26) a + S1x2048x512.size a ≤ S2x2048x512.size a) ∧
  (∀ (k0_h2 : k0_cond2 v4 = 1#1), ∀ (k0_h3 : k0_cond3 v48 = 1#1), ∀ a, (k0_off17 v26) a + S1.size a ≤ S2.size a) ∧
  (∀ (k0_h2 : k0_cond2 v4 = 1#1), ∀ (k0_h3 : k0_cond3 v48 = 1#1), ∀ a, (k0_off18 v26) a + S1x2048x512.size a ≤ S2x2048x512.size a) ∧
  (∀ (k0_h2 : k0_cond2 v4 = 1#1), ∀ (k0_h3 : k0_cond3 v48 = 1#1), ∀ a, (k0_off19 v26) a + S1x512x2048.size a ≤ S2x512x2048.size a)
theorem k0_off14_inb : ∀ (v4 : BitVec 32) (v26 : BitVec 32) (v48 : BitVec 32) (k0_hw4 : k0_chk4 v4 v26 v48), ∀ (k0_h2 : k0_cond2 v4 = 1#1), ∀ (k0_h3 : k0_cond3 v48 = 1#1), ∀ a, (k0_off14 v26) a + S1.size a ≤ S2.size a := fun v4 v26 v48 k0_hw4 k0_h2 k0_h3 => k0_hw4.1 k0_h2 k0_h3
theorem k0_off15_inb : ∀ (v4 : BitVec 32) (v26 : BitVec 32) (v48 : BitVec 32) (k0_hw4 : k0_chk4 v4 v26 v48), ∀ (k0_h2 : k0_cond2 v4 = 1#1), ∀ (k0_h3 : k0_cond3 v48 = 1#1), ∀ a, (k0_off15 v26) a + S1x2048x512.size a ≤ S2x2048x512.size a := fun v4 v26 v48 k0_hw4 k0_h2 k0_h3 => k0_hw4.2.1 k0_h2 k0_h3
theorem k0_off17_inb : ∀ (v4 : BitVec 32) (v26 : BitVec 32) (v48 : BitVec 32) (k0_hw4 : k0_chk4 v4 v26 v48), ∀ (k0_h2 : k0_cond2 v4 = 1#1), ∀ (k0_h3 : k0_cond3 v48 = 1#1), ∀ a, (k0_off17 v26) a + S1.size a ≤ S2.size a := fun v4 v26 v48 k0_hw4 k0_h2 k0_h3 => k0_hw4.2.2.1 k0_h2 k0_h3
theorem k0_off18_inb : ∀ (v4 : BitVec 32) (v26 : BitVec 32) (v48 : BitVec 32) (k0_hw4 : k0_chk4 v4 v26 v48), ∀ (k0_h2 : k0_cond2 v4 = 1#1), ∀ (k0_h3 : k0_cond3 v48 = 1#1), ∀ a, (k0_off18 v26) a + S1x2048x512.size a ≤ S2x2048x512.size a := fun v4 v26 v48 k0_hw4 k0_h2 k0_h3 => k0_hw4.2.2.2.1 k0_h2 k0_h3
theorem k0_off19_inb : ∀ (v4 : BitVec 32) (v26 : BitVec 32) (v48 : BitVec 32) (k0_hw4 : k0_chk4 v4 v26 v48), ∀ (k0_h2 : k0_cond2 v4 = 1#1), ∀ (k0_h3 : k0_cond3 v48 = 1#1), ∀ a, (k0_off19 v26) a + S1x512x2048.size a ≤ S2x512x2048.size a := fun v4 v26 v48 k0_hw4 k0_h2 k0_h3 => k0_hw4.2.2.2.2 k0_h2 k0_h3

def k0_off20 (v53 : BitVec 32) : Fin 3 → Nat :=
  let c0_i32_33 : BitVec 32 := 0#32
  let c0_i32_34 : BitVec 32 := 0#32
  ![v53.toNat, 0, 0]

def k0_chk5 (v4 : BitVec 32) (v48 : BitVec 32) (v53 : BitVec 32) : Prop :=
  (∀ (k0_h2 : k0_cond2 v4 = 1#1), ∀ (k0_h3 : k0_cond3 v48 = 1#1), ∀ a, (k0_off16 v53) a + S1x2048x512.size a ≤ S64x2048x512.size a) ∧
  (∀ (k0_h2 : k0_cond2 v4 = 1#1), ∀ (k0_h3 : k0_cond3 v48 = 1#1), ∀ a, (k0_off20 v53) a + S1x512x2048.size a ≤ S64x512x2048.size a)
theorem k0_off16_inb : ∀ (v4 : BitVec 32) (v48 : BitVec 32) (v53 : BitVec 32) (k0_hw5 : k0_chk5 v4 v48 v53), ∀ (k0_h2 : k0_cond2 v4 = 1#1), ∀ (k0_h3 : k0_cond3 v48 = 1#1), ∀ a, (k0_off16 v53) a + S1x2048x512.size a ≤ S64x2048x512.size a := fun v4 v48 v53 k0_hw5 k0_h2 k0_h3 => k0_hw5.1 k0_h2 k0_h3
theorem k0_off20_inb : ∀ (v4 : BitVec 32) (v48 : BitVec 32) (v53 : BitVec 32) (k0_hw5 : k0_chk5 v4 v48 v53), ∀ (k0_h2 : k0_cond2 v4 = 1#1), ∀ (k0_h3 : k0_cond3 v48 = 1#1), ∀ a, (k0_off20 v53) a + S1x512x2048.size a ≤ S64x512x2048.size a := fun v4 v48 v53 k0_hw5 k0_h2 k0_h3 => k0_hw5.2 k0_h2 k0_h3

def k0_off21 (i : grid0.Coords) : Fin 1 → Nat :=
  let arg0 : BitVec 32 := BitVec.ofNat 32 (i 0).val
  let v8 : Index := Scalar.indexCast arg0
  ![v8.toNat]
def k0_off22 (i : grid0.Coords) : Fin 1 → Nat :=
  let arg0 : BitVec 32 := BitVec.ofNat 32 (i 0).val
  let v25 : Index := Scalar.indexCast arg0
  ![v25.toNat]
def k0_off23 (v26 : BitVec 32) : Fin 3 → Nat :=
  let v27 : Index := Scalar.indexCast v26
  let c0_8 : Index := 0#32
  let c0_9 : Index := 0#32
  ![v27.toNat, 0, 0]
def k0_cond4 (v9 : BitVec 32) : BitVec 1 :=
  let c1_i32_2 : BitVec 32 := 1#32
  let v10 : BitVec 1 := Scalar.cmpi .eq v9 c1_i32_2
  let v11 : BitVec 32 := Scalar.extui v10
  let c0_i32_3 : BitVec 32 := 0#32
  let v12 : BitVec 1 := Scalar.cmpi .ne v11 c0_i32_3
  v12

def k0_off24 (v26 : BitVec 32) : Fin 3 → Nat :=
  let v41 : Index := Scalar.indexCast v26
  let c0_16 : Index := 0#32
  let c0_17 : Index := 0#32
  ![v41.toNat, 0, 0]

def k0_chk6 (v9 : BitVec 32) (v26 : BitVec 32) : Prop :=
  (∀ (k0_h4 : k0_cond4 v9 = 1#1), ∀ a, (k0_off23 v26) a + S1x2048x512.size a ≤ S2x2048x512.size a) ∧
  (∀ (k0_h4 : k0_cond4 v9 = 1#1), ∀ a, (k0_off24 v26) a + S1x512x2048.size a ≤ S2x512x2048.size a)
theorem k0_off23_inb : ∀ (v9 : BitVec 32) (v26 : BitVec 32) (k0_hw6 : k0_chk6 v9 v26), ∀ (k0_h4 : k0_cond4 v9 = 1#1), ∀ a, (k0_off23 v26) a + S1x2048x512.size a ≤ S2x2048x512.size a := fun v9 v26 k0_hw6 k0_h4 => k0_hw6.1 k0_h4
theorem k0_off24_inb : ∀ (v9 : BitVec 32) (v26 : BitVec 32) (k0_hw6 : k0_chk6 v9 v26), ∀ (k0_h4 : k0_cond4 v9 = 1#1), ∀ a, (k0_off24 v26) a + S1x512x2048.size a ≤ S2x512x2048.size a := fun v9 v26 k0_hw6 k0_h4 => k0_hw6.2 k0_h4

def k0_off25 (i : grid0.Coords) : Fin 1 → Nat :=
  let arg0 : BitVec 32 := BitVec.ofNat 32 (i 0).val
  let v13 : Index := Scalar.indexCast arg0
  ![v13.toNat]
def k0_cond5 (i : grid0.Coords) (v14 : BitVec 32) (v16 : BitVec 32) : BitVec 1 :=
  let c0_i32_4 : BitVec 32 := 0#32
  let v15 : BitVec 1 := Scalar.cmpi .eq v14 c0_i32_4
  let arg0 : BitVec 32 := BitVec.ofNat 32 (i 0).val
  let v17 : BitVec 1 := Scalar.cmpi .slt arg0 v16
  let v18 : BitVec 1 := Scalar.andi v15 v17
  let v19 : BitVec 32 := Scalar.extui v18
  let c0_i32_5 : BitVec 32 := 0#32
  let v20 : BitVec 1 := Scalar.cmpi .ne v19 c0_i32_5
  v20

def k0_cond6 (i : grid0.Coords) (v21 : BitVec 32) : BitVec 1 :=
  let arg0 : BitVec 32 := BitVec.ofNat 32 (i 0).val
  let v22 : BitVec 1 := Scalar.cmpi .sge arg0 v21
  let v23 : BitVec 32 := Scalar.extui v22
  let c0_i32_7 : BitVec 32 := 0#32
  let v24 : BitVec 1 := Scalar.cmpi .ne v23 c0_i32_7
  v24

def cc0_transform_0 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64 : Shape := ⟨1, ![64]⟩
abbrev S163840x2048 : Shape := ⟨2, ![163840, 2048]⟩
abbrev S64x2048x512 : Shape := ⟨3, ![64, 2048, 512]⟩
abbrev S64x512x2048 : Shape := ⟨3, ![64, 512, 2048]⟩
abbrev S_ : Shape := ⟨0, ![]⟩
abbrev S320 : Shape := ⟨1, ![320]⟩
abbrev S1x64 : Shape := ⟨2, ![1, 64]⟩
abbrev S320x1 : Shape := ⟨2, ![320, 1]⟩
abbrev S320x64 : Shape := ⟨2, ![320, 64]⟩
abbrev S320x512x2048 : Shape := ⟨3, ![320, 512, 2048]⟩
abbrev S320x2048x512 : Shape := ⟨3, ![320, 2048, 512]⟩
abbrev S320x512x512 : Shape := ⟨3, ![320, 512, 512]⟩
abbrev S1 : Shape := ⟨1, ![1]⟩
abbrev S320x1x1 : Shape := ⟨3, ![320, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S64, .i32⟩
  | .hbm, ⟨1, _⟩ => ⟨S163840x2048, .bf16⟩
  | .hbm, ⟨2, _⟩ => ⟨S64x2048x512, .f32⟩
  | .hbm, ⟨3, _⟩ => ⟨S64x2048x512, .f32⟩
  | .hbm, ⟨4, _⟩ => ⟨S64x512x2048, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S320, .i32⟩
  | .hbm, ⟨36, _⟩ => ⟨S_, .i32⟩
  | .hbm, ⟨37, _⟩ => ⟨S320, .i32⟩
  | .hbm, ⟨38, _⟩ => ⟨S320, .i32⟩
  | .hbm, ⟨39, _⟩ => ⟨S1x64, .i32⟩
  | .hbm, ⟨40, _⟩ => ⟨S320x1, .i32⟩
  | .hbm, ⟨41, _⟩ => ⟨S320x64, .i32⟩
  | .hbm, ⟨42, _⟩ => ⟨S320x64, .i32⟩
  | .hbm, ⟨43, _⟩ => ⟨S320x64, .i1⟩
  | .hbm, ⟨44, _⟩ => ⟨S320x64, .i32⟩
  | .hbm, ⟨45, _⟩ => ⟨S_, .i32⟩
  | .hbm, ⟨46, _⟩ => ⟨S320, .i32⟩
  | .hbm, ⟨47, _⟩ => ⟨S_, .i32⟩
  | .hbm, ⟨48, _⟩ => ⟨S320, .i32⟩
  | .hbm, ⟨49, _⟩ => ⟨S320, .i32⟩
  | .hbm, ⟨50, _⟩ => ⟨S163840x2048, .f32⟩
  | .hbm, ⟨51, _⟩ => ⟨S320x512x2048, .f32⟩
  | .hbm, ⟨52, _⟩ => ⟨S_, .i32⟩
  | .hbm, ⟨53, _⟩ => ⟨S320, .i32⟩
  | .hbm, ⟨54, _⟩ => ⟨S320, .i1⟩
  | .hbm, ⟨55, _⟩ => ⟨S_, .i32⟩
  | .hbm, ⟨56, _⟩ => ⟨S320, .i32⟩
  | .hbm, ⟨57, _⟩ => ⟨S320, .i32⟩
  | .hbm, ⟨58, _⟩ => ⟨S320, .i32⟩
  | .hbm, ⟨59, _⟩ => ⟨S320x1, .i32⟩
  | .hbm, ⟨60, _⟩ => ⟨S320x2048x512, .f32⟩
  | .hbm, ⟨61, _⟩ => ⟨S320x512x512, .f32⟩
  | .hbm, ⟨62, _⟩ => ⟨S320x512x512, .f32⟩
  | .hbm, ⟨63, _⟩ => ⟨S320x512x512, .f32⟩
  | .hbm, ⟨64, _⟩ => ⟨S_, .f32⟩
  | .hbm, ⟨65, _⟩ => ⟨S320x512x512, .f32⟩
  | .hbm, ⟨66, _⟩ => ⟨S320x512x512, .f32⟩
  | .hbm, ⟨67, _⟩ => ⟨S_, .f32⟩
  | .hbm, ⟨68, _⟩ => ⟨S320x512x512, .f32⟩
  | .hbm, ⟨69, _⟩ => ⟨S320x512x512, .f32⟩
  | .hbm, ⟨70, _⟩ => ⟨S320x512x512, .f32⟩
  | .hbm, ⟨71, _⟩ => ⟨S_, .i32⟩
  | .hbm, ⟨72, _⟩ => ⟨S320, .i32⟩
  | .hbm, ⟨73, _⟩ => ⟨S320, .i1⟩
  | .hbm, ⟨74, _⟩ => ⟨S_, .i32⟩
  | .hbm, ⟨75, _⟩ => ⟨S320, .i32⟩
  | .hbm, ⟨76, _⟩ => ⟨S320, .i32⟩
  | .hbm, ⟨77, _⟩ => ⟨S320, .i32⟩
  | .hbm, ⟨78, _⟩ => ⟨S320x1, .i32⟩
  | .hbm, ⟨79, _⟩ => ⟨S320x2048x512, .f32⟩
  | .hbm, ⟨80, _⟩ => ⟨S320x512x512, .f32⟩
  | .hbm, ⟨81, _⟩ => ⟨S320x512x512, .f32⟩
  | .hbm, ⟨82, _⟩ => ⟨S_, .i32⟩
  | .hbm, ⟨83, _⟩ => ⟨S320, .i32⟩
  | .hbm, ⟨84, _⟩ => ⟨S320, .i1⟩
  | .hbm, ⟨85, _⟩ => ⟨S_, .i32⟩
  | .hbm, ⟨86, _⟩ => ⟨S320, .i32⟩
  | .hbm, ⟨87, _⟩ => ⟨S320, .i32⟩
  | .hbm, ⟨88, _⟩ => ⟨S320, .i32⟩
  | .hbm, ⟨89, _⟩ => ⟨S320x1, .i32⟩
  | .hbm, ⟨90, _⟩ => ⟨S320x512x2048, .f32⟩
  | .hbm, ⟨91, _⟩ => ⟨S320x512x2048, .f32⟩
  | .hbm, ⟨92, _⟩ => ⟨S1, .i32⟩
  | .hbm, ⟨93, _⟩ => ⟨S_, .i32⟩
  | .hbm, ⟨94, _⟩ => ⟨S320, .i32⟩
  | .hbm, ⟨95, _⟩ => ⟨S320, .i1⟩
  | .hbm, ⟨96, _⟩ => ⟨S320x1x1, .i1⟩
  | .hbm, ⟨97, _⟩ => ⟨S_, .f32⟩
  | .hbm, ⟨98, _⟩ => ⟨S_, .f32⟩
  | .hbm, ⟨99, _⟩ => ⟨S320x512x2048, .i1⟩
  | .hbm, ⟨100, _⟩ => ⟨S320x512x2048, .f32⟩
  | .hbm, ⟨101, _⟩ => ⟨S320x512x2048, .f32⟩
  | .hbm, ⟨102, _⟩ => ⟨S163840x2048, .f32⟩
  | .hbm, ⟨103, _⟩ => ⟨S163840x2048, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v30 : Ref sig .tc := ⟨.hbm, 70, rfl⟩
abbrev main_c_8 : Ref sig .tc := ⟨.hbm, 71, rfl⟩
abbrev main_v31 : Ref sig .tc := ⟨.hbm, 72, rfl⟩
abbrev main_v32 : Ref sig .tc := ⟨.hbm, 73, rfl⟩
abbrev main_c_9 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_10 : Ref sig .tc := ⟨.hbm, 82, rfl⟩
abbrev main_v40 : Ref sig .tc := ⟨.hbm, 83, rfl⟩
abbrev main_v41 : Ref sig .tc := ⟨.hbm, 84, rfl⟩
abbrev main_c_11 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩

abbrev nD : Nat := 1
abbrev τ : Topo := Topo.v7x

variable {F : FTy → Type} [FloatOps F]
-- ==== Kernel2.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x6480 : Shape := ⟨3, ![1, 2048, 6480]⟩
abbrev S2048x6480 : Shape := ⟨2, ![2048, 6480]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x5120 : Shape := ⟨2, ![2048, 5120]⟩
abbrev S_ : Shape := ⟨0, ![]⟩
abbrev S2048x48 : Shape := ⟨2, ![2048, 48]⟩
abbrev S2048x384 : Shape := ⟨2, ![2048, 384]⟩
abbrev S2048 : Shape := ⟨1, ![2048]⟩
abbrev S1x1024x2048 : Shape := ⟨3, ![1, 1024, 2048]⟩
abbrev S1x6x2048 : Shape := ⟨3, ![1, 6, 2048]⟩
abbrev S1024x2048 : Shape := ⟨2, ![1024, 2048]⟩
abbrev S1024 : Shape := ⟨1, ![1024]⟩
abbrev S1024x1 : Shape := ⟨2, ![1024, 1]⟩
abbrev S1x1x2048 : Shape := ⟨3, ![1, 1, 2048]⟩
abbrev S16384x2048 : Shape := ⟨2, ![16384, 2048]⟩
abbrev S16384x5120 : Shape := ⟨2, ![16384, 5120]⟩
abbrev S1024x1024 : Shape := ⟨2, ![1024, 1024]⟩
abbrev S16384x1024 : Shape := ⟨2, ![16384, 1024]⟩
abbrev S16384x384 : Shape := ⟨2, ![16384, 384]⟩
abbrev S1024x384 : Shape := ⟨2, ![1024, 384]⟩

abbrev nBuf : Space → Nat
  | .hbm => 28
  | .vmem => 23
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S1x2048x6480, .f32⟩
  | .hbm, ⟨4, _⟩ => ⟨S2048x6480, .f32⟩
  | .hbm, ⟨5, _⟩ => ⟨S2048x1024, .f32⟩
  | .hbm, ⟨6, _⟩ => ⟨S2048x256, .f32⟩
  | .hbm, ⟨7, _⟩ => ⟨S2048x1024, .f32⟩
  | .hbm, ⟨8, _⟩ => ⟨S2048x64, .f32⟩
  | .hbm, ⟨9, _⟩ => ⟨S2048x16, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x5120, .f32⟩
  | .hbm, ⟨15, _⟩ => ⟨S2048x5120, .bf16⟩
  | .hbm, ⟨16, _⟩ => ⟨S2048x1024, .bf16⟩
  | .hbm, ⟨17, _⟩ => ⟨S_, .f32⟩
  | .hbm, ⟨18, _⟩ => ⟨S2048x48, .f32⟩
  | .hbm, ⟨19, _⟩ => ⟨S2048x384, .f32⟩
  | .hbm, ⟨20, _⟩ => ⟨S2048x384, .bf16⟩
  | .hbm, ⟨21, _⟩ => ⟨S2048, .f32⟩
  | .hbm, ⟨22, _⟩ => ⟨S1x2048, .f32⟩
  | .hbm, ⟨23, _⟩ => ⟨S8x2048x2048, .bf16⟩
  | .hbm, ⟨24, _⟩ => ⟨S16384x2048, .bf16⟩
  | .hbm, ⟨25, _⟩ => ⟨S16384x5120, .bf16⟩
  | .hbm, ⟨26, _⟩ => ⟨S16384x1024, .f32⟩
  | .hbm, ⟨27, _⟩ => ⟨S16384x384, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x1024x2048, .bf16⟩
  | .local _ .vmem, ⟨6, _⟩ => ⟨S1x1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x2048, .bf16⟩
  | .local _ .vmem, ⟨19, _⟩ => ⟨S1024x2048, .bf16⟩
  | .local _ .vmem, ⟨20, _⟩ => ⟨S2048x384, .bf16⟩
  | .local _ .vmem, ⟨21, _⟩ => ⟨S1024x384, .f32⟩
  | .local _ .vmem, ⟨22, _⟩ => ⟨S1024x384, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x384 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S8x2048x2048 : Shape := ⟨3, ![8, 2048, 2048]⟩
abbrev S8x6x2048 : Shape := ⟨3, ![8, 6, 2048]⟩
abbrev S1x2048 : Shape := ⟨2, ![1, 2048]⟩
abbrev S1x2048x6480 : Shape := ⟨3, ![1, 2048, 6480]⟩
abbrev S8x1x2048 : Shape := ⟨3, ![8, 1, 2048]⟩
abbrev S8x2048 : Shape := ⟨2, ![8, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S2048x6480 : Shape := ⟨2, ![2048, 6480]⟩
abbrev S8x2048x6480 : Shape := ⟨3, ![8, 2048, 6480]⟩
abbrev S16384x6480 : Shape := ⟨2, ![16384, 6480]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x5120 : Shape := ⟨2, ![16384, 5120]⟩
abbrev S16384x48 : Shape := ⟨2, ![16384, 48]⟩
abbrev S16384x384 : Shape := ⟨2, ![16384, 384]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x6x2048, .f32⟩
  | .hbm, ⟨2, _⟩ => ⟨S1x2048, .f32⟩
  | .hbm, ⟨3, _⟩ => ⟨S1x2048x6480, .f32⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S8x2048, .f32⟩
  | .hbm, ⟨8, _⟩ => ⟨S2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x1x2048, .f32⟩
  | .hbm, ⟨26, _⟩ => ⟨S_, .f32⟩
  | .hbm, ⟨27, _⟩ => ⟨S8x1x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S2048x6480, .f32⟩
  | .hbm, ⟨35, _⟩ => ⟨S8x2048x6480, .f32⟩
  | .hbm, ⟨36, _⟩ => ⟨S16384x6480, .f32⟩
  | .hbm, ⟨37, _⟩ => ⟨S16384x1024, .f32⟩
  | .hbm, ⟨38, _⟩ => ⟨S16384x256, .f32⟩
  | .hbm, ⟨39, _⟩ => ⟨S16384x1024, .f32⟩
  | .hbm, ⟨40, _⟩ => ⟨S16384x64, .f32⟩
  | .hbm, ⟨41, _⟩ => ⟨S16384x16, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x5120, .f32⟩
  | .hbm, ⟨47, _⟩ => ⟨S16384x5120, .bf16⟩
  | .hbm, ⟨48, _⟩ => ⟨S_, .f32⟩
  | .hbm, ⟨49, _⟩ => ⟨S16384x48, .f32⟩
  | .hbm, ⟨50, _⟩ => ⟨S16384x384, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel3.lean ====
abbrev S16384x1024 : Shape := ⟨2, ![16384, 1024]⟩
abbrev S8x2048x2048 : Shape := ⟨3, ![8, 2048, 2048]⟩
abbrev S1x2048x2048 : Shape := ⟨3, ![1, 2048, 2048]⟩
abbrev S8x6x2048 : Shape := ⟨3, ![8, 6, 2048]⟩
abbrev S1x2048 : Shape := ⟨2, ![1, 2048]⟩
abbrev S1x2048x64 : Shape := ⟨3, ![1, 2048, 64]⟩
abbrev S16384x2048 : Shape := ⟨2, ![16384, 2048]⟩
abbrev S2048x2048 : Shape := ⟨2, ![2048, 2048]⟩
abbrev S2048 : Shape := ⟨1, ![2048]⟩
abbrev S2048x64 : Shape := ⟨2, ![2048, 64]⟩
abbrev S64x2048 : Shape := ⟨2, ![64, 2048]⟩
abbrev S64x16384 : Shape := ⟨2, ![64, 16384]⟩
abbrev S512x1024 : Shape := ⟨2, ![512, 1024]⟩
abbrev S512x2048 : Shape := ⟨2, ![512, 2048]⟩
abbrev S1024x2048 : Shape := ⟨2, ![1024, 2048]⟩
abbrev S1x6x2048 : Shape := ⟨3, ![1, 6, 2048]⟩
abbrev S64x512 : Shape := ⟨2, ![64, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x2048, .f32⟩
  | .hbm, ⟨3, _⟩ => ⟨S1x2048x2048, .f32⟩
  | .hbm, ⟨4, _⟩ => ⟨S8x6x2048, .f32⟩
  | .hbm, ⟨5, _⟩ => ⟨S1x2048, .f32⟩
  | .hbm, ⟨6, _⟩ => ⟨S1x2048x64, .f32⟩
  | .hbm, ⟨7, _⟩ => ⟨S16384x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S2048x64, .f32⟩
  | .hbm, ⟨12, _⟩ => ⟨S64x2048, .f32⟩
  | .hbm, ⟨13, _⟩ => ⟨S64x2048, .bf16⟩
  | .hbm, ⟨14, _⟩ => ⟨S1x2048, .f32⟩
  | .hbm, ⟨15, _⟩ => ⟨S16384x2048, .f32⟩
  | .hbm, ⟨16, _⟩ => ⟨S16384x2048, .bf16⟩
  | .hbm, ⟨17, _⟩ => ⟨S64x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S64x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S64x512, .f32⟩
  | .local _ .vmem, ⟨17, _⟩ => ⟨S64x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S8x2048x2048 : Shape := ⟨3, ![8, 2048, 2048]⟩
abbrev S1x2048x2048 : Shape := ⟨3, ![1, 2048, 2048]⟩
abbrev S8x6x2048 : Shape := ⟨3, ![8, 6, 2048]⟩
abbrev S1x2048 : Shape := ⟨2, ![1, 2048]⟩
abbrev S1x2048x64 : Shape := ⟨3, ![1, 2048, 64]⟩
abbrev S8x1x2048 : Shape := ⟨3, ![8, 1, 2048]⟩
abbrev S8x2048 : Shape := ⟨2, ![8, 2048]⟩
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S2048x64 : Shape := ⟨2, ![2048, 64]⟩
abbrev S16384x64 : Shape := ⟨2, ![16384, 64]⟩
abbrev S64x16384 : Shape := ⟨2, ![64, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x2048, .f32⟩
  | .hbm, ⟨3, _⟩ => ⟨S1x2048x2048, .f32⟩
  | .hbm, ⟨4, _⟩ => ⟨S8x6x2048, .f32⟩
  | .hbm, ⟨5, _⟩ => ⟨S1x2048, .f32⟩
  | .hbm, ⟨6, _⟩ => ⟨S1x2048x64, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048, .f32⟩
  | .hbm, ⟨13, _⟩ => ⟨S16384x2048, .bf16⟩
  | .hbm, ⟨14, _⟩ => ⟨S16384x2048, .f32⟩
  | .hbm, ⟨15, _⟩ => ⟨S8x2048x2048, .f32⟩
  | .hbm, ⟨16, _⟩ => ⟨S2048x2048, .f32⟩
  | .hbm, ⟨17, _⟩ => ⟨S8x2048x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S1x1x2048, .f32⟩
  | .hbm, ⟨37, _⟩ => ⟨S8x2048x2048, .f32⟩
  | .hbm, ⟨38, _⟩ => ⟨S8x2048x2048, .f32⟩
  | .hbm, ⟨39, _⟩ => ⟨S8x1x2048, .f32⟩
  | .hbm, ⟨40, _⟩ => ⟨S_, .f32⟩
  | .hbm, ⟨41, _⟩ => ⟨S8x1x2048, .f32⟩
  | .hbm, ⟨42, _⟩ => ⟨S8x1x2048, .f32⟩
  | .hbm, ⟨43, _⟩ => ⟨S8x2048x2048, .f32⟩
  | .hbm, ⟨44, _⟩ => ⟨S8x2048x2048, .f32⟩
  | .hbm, ⟨45, _⟩ => ⟨S8x1x2048, .f32⟩
  | .hbm, ⟨46, _⟩ => ⟨S8x2048x2048, .f32⟩
  | .hbm, ⟨47, _⟩ => ⟨S8x2048x2048, .f32⟩
  | .hbm, ⟨48, _⟩ => ⟨S16384x2048, .f32⟩
  | .hbm, ⟨49, _⟩ => ⟨S16384x2048, .f32⟩
  | .hbm, ⟨50, _⟩ => ⟨S16384x2048, .bf16⟩
  | .hbm, ⟨51, _⟩ => ⟨S2048x64, .f32⟩
  | .hbm, ⟨52, _⟩ => ⟨S16384x64, .f32⟩
  | .hbm, ⟨53, _⟩ => ⟨S64x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Projection.Run.lean ====
/- The input projection's run: @main of `Kernel2Ideal` normalises the rows and multiplies them with the three groups of
   weight columns, one region each.  Every final state holds, at each result, what the last region that writes it
   leaves; the arguments are as launched and every counter is zero.  Stated for any float values, so that the frame of
   the printed kernel is the same theorem. -/
module

public import proofs.«01_k».proof.Proof.Gen.Kernel2Ideal.Frame

@[expose] public section

set_option maxRecDepth 16384

noncomputable section

namespace Cert.Projection

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The segments in the order of @main, as `Gen.frame` runs them; the post keeps the contents of every buffer. -/
abbrev segments : List (Pipeline.Seg (pcfgs (F := F)) adm (pdats m ρ) () defs₀ 𝒱₀ L lv) := segs m ρ

set_option backward.isDefEq.respectTransparency.types false in
/-- Every final state holds `W6`, the contents after the last region, in every buffer of the TensorCore's main memory,
    and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segments m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- What region 1 leaves in the first result: the bfloat16 columns. -/
theorem W6_main (c : Dev nD) : W6 m ρ c (Proc.devRef .tc main_v20) = (dat1 (V3 m ρ) c).arrAt 2 cfg1.N :=
  (W6_of m ρ c main_v20 (by decide +kernel)).trans
    ((W5_of m ρ c main_v20 (by decide +kernel)).trans (W4_arr m ρ c 2))

/-- What region 2 leaves in the second result: the forget gate's columns. -/
theorem W6_gate (c : Dev nD) : W6 m ρ c (Proc.devRef .tc main_v21) = (dat2 (V4 m ρ) c).arrAt 2 cfg2.N :=
  (W6_of m ρ c main_v21 (by decide +kernel)).trans (W5_arr m ρ c 2)

/-- What region 3 leaves in the third result: the latent and index columns. -/
theorem W6_aux (c : Dev nD) : W6 m ρ c (Proc.devRef .tc main_v22) = (dat3 (V5 m ρ) c).arrAt 2 cfg3.N :=
  W6_arr m ρ c 2

/-- The rows the three products read are those of region 0. -/
theorem rows1 (c : Dev nD) : V3 m ρ c main_v19
    = shapeCast S16384x2048 ((dat0 (V1 m ρ) c).arrAt 3 cfg0.N : Vec F S8x2048x2048 .bf16) shapeCasts_S8x2048x2048_S16384x2048 := by
  show StableHlo.after hostOps1 (W2 m ρ c) (Proc.devRef .tc main_v19) = _
  after_results
  rw [show W2 m ρ c (Proc.devRef .tc main_v18) = (dat0 (V1 m ρ) c).arrAt 3 cfg0.N from W2_arr m ρ c 3]
  rfl

end Cert.Projection

end
-- ==== Proof.Projection.Rows.lean ====
/- What the regions of the input projection leave, at an index and over the extended reals: region 0 the normalised,
   scaled and shifted rows; regions 1, 2 and 3 the products of those rows with their weight columns. -/
module

public import proofs.«01_k».proof.Proof.Projection.Run
public import Idealize.ShloMosaic.Lib.Pipeline.ValueKit
public import Idealize.ShloMosaic.Lib.Pointwise

@[expose] public section

set_option maxRecDepth 16384

noncomputable section

namespace Cert.Projection

open Cert.Kernel2Ideal Cert.Kernel2Ideal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The root mean square of row `(b, l)` of `x`, inverted: `1 / √(mean x² + ε)`. -/
def invRms (x : Vec Ideal S8x2048x2048 .f32) (b : Fin 8) (l : Fin 2048) : EReal :=
  FloatOps.rsqrt (F := Ideal) (φ := .f32)
    (Ideal.div (∑ k : Fin 2048, x (ix3 b l k) * x (ix3 b l k)) (Scalar.ofBits (F := Ideal) .f32 0x45000000#32 : EReal)
      + (Scalar.ofBits (F := Ideal) .f32 0x358637BD#32 : EReal))

/-- The normalised row, scaled by `1 + modulation row 1` and shifted by `modulation row 0`. -/
def normed (x : Vec Ideal S8x2048x2048 .f32) (md : Vec Ideal S8x6x2048 .f32) (g : Vec Ideal S1x2048 .f32)
    (b : Fin 8) (l d : Fin 2048) : EReal :=
  x (ix3 b l d) * invRms x b l * g (ix2 0 d) * ((Scalar.ofBits (F := Ideal) .f32 0x3F800000#32 : EReal) + md (ix3 b 1 d)) + md (ix3 b 0 d)

theorem index0 : ∀ t : Fin cfg0.N, (cfg0.win 3).index t = ![(cfg0.grid.coords t 0).val, (cfg0.grid.coords t 1).val, 0]
    ∧ (cfg0.win 0).index t = ![(cfg0.grid.coords t 0).val, (cfg0.grid.coords t 1).val, 0]
    ∧ (cfg0.win 1).index t = ![(cfg0.grid.coords t 0).val, 0, 0]
    ∧ (cfg0.win 2).index t = ![0, 0] := by decide +kernel

/-- Region 0's blocks in their arrays: point `t` reads and writes rows `1024 r … 1024 r + 1023` of member `b`,
    `(b, r)` its coordinates. -/
theorem emb0_in (t : Fin cfg0.N) (l0 : (cfg0.grid.coords t 0).val < 8) (a : Fin 1) (b : Fin 1024) (d : Fin 2048)
    (hb : (cfg0.grid.coords t 1).val * 1024 + b.val < 2048) :
    (win0_0.blk t).view.emb (ix3 a b d) = ix3 ⟨(cfg0.grid.coords t 0).val, l0⟩ ⟨(cfg0.grid.coords t 1).val * 1024 + b.val, hb⟩ d := by
  have e := (index0 t).2.1
  refine funext fun (k : Fin 3) => ?_
  match k with
  | 0 => apply Fin.ext; blk_simp [e]
  | 1 => apply Fin.ext; blk_simp [e]
  | 2 => apply Fin.ext; blk_simp [e]

theorem emb0_out (t : Fin cfg0.N) (l0 : (cfg0.grid.coords t 0).val < 8) (a : Fin 1) (b : Fin 1024) (d : Fin 2048)
    (hb : (cfg0.grid.coords t 1).val * 1024 + b.val < 2048) :
    (win0_3.blk t).view.emb (ix3 a b d) = ix3 ⟨(cfg0.grid.coords t 0).val, l0⟩ ⟨(cfg0.grid.coords t 1).val * 1024 + b.val, hb⟩ d := by
  have e := (index0 t).1
  refine funext fun (k : Fin 3) => ?_
  match k with
  | 0 => apply Fin.ext; blk_simp [e]
  | 1 => apply Fin.ext; blk_simp [e]
  | 2 => apply Fin.ext; blk_simp [e]

theorem emb0_mod (t : Fin cfg0.N) (l0 : (cfg0.grid.coords t 0).val < 8) (a : Fin 1) (b : Fin 6) (d : Fin 2048) :
    (win0_1.blk t).view.emb (ix3 a b d) = ix3 ⟨(cfg0.grid.coords t 0).val, l0⟩ b d := by
  have e := (index0 t).2.2.1
  refine funext fun (k : Fin 3) => ?_
  match k with
  | 0 => apply Fin.ext; blk_simp [e]
  | 1 => apply Fin.ext; blk_simp [e]
  | 2 => apply Fin.ext; blk_simp [e]

theorem emb0_gain (t : Fin cfg0.N) (a : Fin 1) (d : Fin 2048) :
    (win0_2.blk t).view.emb (ix2 a d) = ix2 a d := by
  have e := (index0 t).2.2.2
  refine funext fun (k : Fin 2) => ?_
  match k with
  | 0 => apply Fin.ext; blk_simp [e]
  | 1 => apply Fin.ext; blk_simp [e]

set_option maxHeartbeats 1000000 in
/-- Region 0's result. -/
theorem rows_eq (c : Dev nD) : (dat0 V c).arrAt 3 cfg0.N
    = fun i => normed (V c main_arg0) (V c main_arg1) (V c main_v17) (i 0) (i 1) (i 2) := by
  refine (dat0 V c).arrAt_eq_of_covers 3 _ (by decide +kernel) fun t hf y => ?_
  blk_simp
  rw [after0_3]
  frame_out
  revert y
  intro (y : S1x1024x2048.Idx)
  idx_vars y
  have l0 : (cfg0.grid.coords t 0).val < 8 := (cfg0.grid.coords t 0).isLt
  have l1 : (cfg0.grid.coords t 1).val < 2 := (cfg0.grid.coords t 1).isLt
  have hb : (cfg0.grid.coords t 1).val * 1024 + y1.val < 2048 := by omega
  change _ = normed (V c main_arg0) (V c main_arg1) (V c main_v17) ((win0_3.blk t).view.emb (ix3 y0 y1 y2) 0)
    ((win0_3.blk t).view.emb (ix3 y0 y1 y2) 1) ((win0_3.blk t).view.emb (ix3 y0 y1 y2) 2)
  rw [emb0_out t l0 y0 y1 y2 hb]
  pointwise [k0_pay1, normed, invRms]
  simp only [iblk0]
  blk_simp
  simp only [emb0_in t l0 _ _ _ hb, emb0_mod t l0,
    show ((View.whole main_v17).slice (win0_2.rect t)).emb (ix2 0 y2) = ix2 0 y2 from emb0_gain t 0 y2]
  rfl

/-- The product of rows and columns, at an index. -/
def product {n : ℕ} (a : Vec Ideal S16384x2048 .bf16) (w : (⟨2, ![2048, n]⟩ : Shape).Idx → EReal)
    (t : Fin 16384) (e : Fin n) : EReal := ∑ k : Fin 2048, a (ix2 t k) * w (ix2 k e)

theorem index1 : ∀ t : Fin cfg1.N, (cfg1.win 2).index t = ![(cfg1.grid.coords t 0).val, (cfg1.grid.coords t 1).val]
    ∧ (cfg1.win 0).index t = ![(cfg1.grid.coords t 0).val, 0]
    ∧ (cfg1.win 1).index t = ![0, (cfg1.grid.coords t 1).val] := by decide +kernel

set_option maxHeartbeats 1000000 in
/-- Region 1's result: the bfloat16 columns. -/
theorem main_eq (c : Dev nD) : (dat1 V c).arrAt 2 cfg1.N
    = fun i => product (n := 5120) (V c main_v19) (V c main_v11) (i 0) (i 1) := by
  refine (dat1 V c).arrAt_eq_of_covers 2 _ (by decide +kernel) fun t hf y => ?_
  blk_simp
  rw [after1_2]
  frame_out
  revert y
  intro (y : S1024x1024.Idx)
  idx_vars y
  obtain ⟨e2, e0, e1⟩ := index1 t
  pointwise [k1_pay1, product]
  simp only [iblk1]
  blk_simp
  refine Finset.sum_congr (M := EReal) rfl fun k _ => ?_
  congr 2
  · refine funext fun (q : Fin 2) => ?_
    match q with
    | 0 => apply Fin.ext; blk_simp [e2, e0]
    | 1 => apply Fin.ext; blk_simp [e2, e0]
  · refine funext fun (q : Fin 2) => ?_
    match q with
    | 0 => apply Fin.ext; blk_simp [e2, e1]
    | 1 => apply Fin.ext; blk_simp [e2, e1]

theorem index2 : ∀ t : Fin cfg2.N, (cfg2.win 2).index t = ![(cfg2.grid.coords t 0).val, (cfg2.grid.coords t 1).val]
    ∧ (cfg2.win 0).index t = ![(cfg2.grid.coords t 0).val, 0]
    ∧ (cfg2.win 1).index t = ![0, (cfg2.grid.coords t 1).val] := by decide +kernel

set_option maxHeartbeats 1000000 in
/-- Region 2's result: the forget gate columns. -/
theorem gate_eq (c : Dev nD) : (dat2 V c).arrAt 2 cfg2.N
    = fun i => product (n := 1024) (V c main_v19) (V c main_v12) (i 0) (i 1) := by
  refine (dat2 V c).arrAt_eq_of_covers 2 _ (by decide +kernel) fun t hf y => ?_
  blk_simp
  rw [after2_2]
  frame_out
  revert y
  intro (y : S1024x1024.Idx)
  idx_vars y
  obtain ⟨e2, e0, e1⟩ := index2 t
  pointwise [k2_pay1, product]
  simp only [iblk2]
  blk_simp
  refine Finset.sum_congr (M := EReal) rfl fun k _ => ?_
  congr 2
  · refine funext fun (q : Fin 2) => ?_
    match q with
    | 0 => apply Fin.ext; blk_simp [e2, e0]
    | 1 => apply Fin.ext; blk_simp [e2, e0]
  · refine funext fun (q : Fin 2) => ?_
    match q with
    | 0 => apply Fin.ext; blk_simp [e2, e1]
    | 1 => apply Fin.ext; blk_simp [e2, e1]

theorem index3 : ∀ t : Fin cfg3.N, (cfg3.win 2).index t = ![(cfg3.grid.coords t 0).val, (cfg3.grid.coords t 1).val]
    ∧ (cfg3.win 0).index t = ![(cfg3.grid.coords t 0).val, 0]
    ∧ (cfg3.win 1).index t = ![0, (cfg3.grid.coords t 1).val] := by decide +kernel

set_option maxHeartbeats 1000000 in
/-- Region 3's result: the remaining columns. -/
theorem aux_eq (c : Dev nD) : (dat3 V c).arrAt 2 cfg3.N
    = fun i => product (n := 384) (V c main_v19) (V c main_v15) (i 0) (i 1) := by
  refine (dat3 V c).arrAt_eq_of_covers 2 _ (by decide +kernel) fun t hf y => ?_
  blk_simp
  rw [after3_2]
  frame_out
  revert y
  intro (y : S1024x384.Idx)
  idx_vars y
  obtain ⟨e2, e0, e1⟩ := index3 t
  pointwise [k3_pay1, product]
  simp only [iblk3]
  blk_simp
  refine Finset.sum_congr (M := EReal) rfl fun k _ => ?_
  congr 2
  · refine funext fun (q : Fin 2) => ?_
    match q with
    | 0 => apply Fin.ext; blk_simp [e2, e0]
    | 1 => apply Fin.ext; blk_simp [e2, e0]
  · refine funext fun (q : Fin 2) => ?_
    match q with
    | 0 => apply Fin.ext; blk_simp [e2, e1]
    | 1 => apply Fin.ext; blk_simp [e2, e1]

end Cert.Projection

end
-- ==== Proof.Projection.Value.lean ====
/- The input projection's value: which column of the weight matrix each column of the three results is the product with,
   and the three results of the kernel's run and of the reference's as that one function of the arguments. -/
module

public import proofs.«01_k».proof.Proof.Projection.Rows
public import proofs.«01_k».proof.Proof.Gen.Reference2Ideal.Run
public import Idealize.ShloMosaic.Lib.ValueLayout

@[expose] public section

set_option maxRecDepth 16384

noncomputable section

namespace Cert.Projection

open Cert.Kernel2Ideal Cert.Kernel2Ideal.Gen
open Idealize.ShloMosaic Idealize.ShloMosaic.TcCoe Idealize.SL.Sem Idealize.ShloMosaic.Tactic
open Idealize.ShloMosaic.Pipeline (Dat Cfg Window)

/-- The projection of token `t` (position `t % 2048` of sequence `t / 2048`) onto column `e` of the weights. -/
def projected (x : Vec Ideal S8x2048x2048 .f32) (md : Vec Ideal S8x6x2048 .f32) (g : Vec Ideal S1x2048 .f32)
    (w : Vec Ideal S1x2048x6480 .f32) (t : Fin 16384) (e : Fin 6480) : EReal :=
  ∑ k : Fin 2048, normed x md g ⟨t.val / 2048, by omega⟩ ⟨t.val % 2048, by omega⟩ k * w (ix3 0 k e)

/-- The weight column of column `e` of the first result: queries, keys' source, values and gates, in the kernel's order. -/
def mainCol (e : Fin 5120) : Fin 6480 :=
  ⟨if e.val < 1024 then e.val else if e.val < 2048 then e.val + 256 else if e.val < 3072 then e.val + 336 else e.val + 1360, by
    split_ifs <;> omega⟩

/-- The weight column of column `e < 336` of the third result. -/
def auxCol (e : Fin 336) : Fin 6480 :=
  ⟨if e.val < 256 then e.val + 1024 else e.val + 2048, by split_ifs <;> omega⟩

variable (m : (ℓ : Loc nD τ sig) → Buf (Elt Ideal) ℓ) (ρ : Dev nD → PrngReg)

/-- The weight matrix without its leading axis. -/
def weights (c : Dev nD) : Vec Ideal S2048x6480 .f32 :=
  shapeCast S2048x6480 (m ((c.tc : Thread nD τ).loc main_arg3) : Vec Ideal S1x2048x6480 .f32) shapeCasts_S1x2048x6480_S2048x6480

theorem weights_apply (c : Dev nD) (k : Fin 2048) (e : Fin 6480) :
    weights m c (ix2 k e) = m ((c.tc : Thread nD τ).loc main_arg3) (ix3 0 k e) := by
  unfold weights
  exact ValueIdx.shapeCast_1ab_ab_apply _ _ _ _

theorem weights_main (c : Dev nD) (k : Fin 2048) (e : Fin 5120) : (V3 m ρ c main_v11 : Vec Ideal S2048x5120 .bf16) (ix2 k e)
    = m ((c.tc : Thread nD τ).loc main_arg3) (ix3 0 k (mainCol e)) := by
  have h : V3 m ρ c main_v11 = V1 m ρ c main_v11 :=
    (W3_of m ρ c main_v11 (by decide +kernel)).trans (W2_of m ρ c main_v11 (by decide +kernel))
  have h' : (V1 m ρ c main_v11 : Vec Ideal S2048x5120 .bf16) = truncf (F := Ideal) .bf16 (concatenate S2048x5120 1
      [⟨S2048x1024, (extractStridedSlice S2048x1024 ![0, 0] (weights m c) slices_S2048x6480_S2048x1024_0_0 : Vec Ideal S2048x1024 .f32)⟩,
       ⟨S2048x1024, (extractStridedSlice S2048x1024 ![0, 1280] (weights m c) slices_S2048x6480_S2048x1024_0_1280 : Vec Ideal S2048x1024 .f32)⟩,
       ⟨S2048x1024, (extractStridedSlice S2048x1024 ![0, 2384] (weights m c) slices_S2048x6480_S2048x1024_0_2384 : Vec Ideal S2048x1024 .f32)⟩,
       ⟨S2048x1024, (extractStridedSlice S2048x1024 ![0, 4432] (weights m c) slices_S2048x6480_S2048x1024_0_4432 : Vec Ideal S2048x1024 .f32)⟩,
       ⟨S2048x1024, (extractStridedSlice S2048x1024 ![0, 5456] (weights m c) slices_S2048x6480_S2048x1024_0_5456 : Vec Ideal S2048x1024 .f32)⟩]
      concatenates_S2048x1024_S2048x1024_S2048x1024_S2048x1024_S2048x1024_S2048x5120_d1 : FVec Ideal S2048x5120 .f32) bitsLt_bf16_f32 := by
    show StableHlo.after hostOps0 (W0 m ρ c) (Proc.devRef .tc main_v11) = _
    after_results
    rfl
  rw [h, h']
  pointwise [weights_apply]
  split_ifs <;> first | omega | skip
  all_goals
    refine congrArg (m _) (congrArg (ix3 _ _) (Fin.ext ?_))
    dsimp only [mainCol]
    split_ifs <;> omega

theorem weights_gate (c : Dev nD) (k : Fin 2048) (e : Fin 1024) : (V4 m ρ c main_v12 : Vec Ideal S2048x1024 .bf16) (ix2 k e)
    = m ((c.tc : Thread nD τ).loc main_arg3) (ix3 0 k ⟨e.val + 3408, by omega⟩) := by
  have h : V4 m ρ c main_v12 = V1 m ρ c main_v12 :=
    (W4_of m ρ c main_v12 (by decide +kernel)).trans
      ((W3_of m ρ c main_v12 (by decide +kernel)).trans (W2_of m ρ c main_v12 (by decide +kernel)))
  have h' : (V1 m ρ c main_v12 : Vec Ideal S2048x1024 .bf16) = truncf (F := Ideal) .bf16
      (extractStridedSlice S2048x1024 ![0, 3408] (weights m c) slices_S2048x6480_S2048x1024_0_3408 : FVec Ideal S2048x1024 .f32)
      bitsLt_bf16_f32 := by
    show StableHlo.after hostOps0 (W0 m ρ c) (Proc.devRef .tc main_v12) = _
    after_results
    rfl
  rw [h, h']
  pointwise [weights_apply]
  refine congrArg (m _) (congrArg (ix3 _ _) (Fin.ext ?_))
  dsimp only
  omega

theorem weights_aux (c : Dev nD) (k : Fin 2048) (e : Fin 384) : (V5 m ρ c main_v15 : Vec Ideal S2048x384 .bf16) (ix2 k e)
    = if h : e.val < 336 then m ((c.tc : Thread nD τ).loc main_arg3) (ix3 0 k (auxCol ⟨e.val, h⟩)) else (0 : EReal) := by
  have h : V5 m ρ c main_v15 = V1 m ρ c main_v15 :=
    (W5_of m ρ c main_v15 (by decide +kernel)).trans
      ((W4_of m ρ c main_v15 (by decide +kernel)).trans
        ((W3_of m ρ c main_v15 (by decide +kernel)).trans (W2_of m ρ c main_v15 (by decide +kernel))))
  have h' : (V1 m ρ c main_v15 : Vec Ideal S2048x384 .bf16) = truncf (F := Ideal) .bf16 (concatenate S2048x384 1
      [⟨S2048x256, (extractStridedSlice S2048x256 ![0, 1024] (weights m c) slices_S2048x6480_S2048x256_0_1024 : Vec Ideal S2048x256 .f32)⟩,
       ⟨S2048x64, (extractStridedSlice S2048x64 ![0, 2304] (weights m c) slices_S2048x6480_S2048x64_0_2304 : Vec Ideal S2048x64 .f32)⟩,
       ⟨S2048x16, (extractStridedSlice S2048x16 ![0, 2368] (weights m c) slices_S2048x6480_S2048x16_0_2368 : Vec Ideal S2048x16 .f32)⟩,
       ⟨S2048x48, (broadcastInDim S2048x48 ![] bcast_S_S2048x48 (constant (F := Ideal) S_ .f32 0x00000000#32) : Vec Ideal S2048x48 .f32)⟩]
      concatenates_S2048x256_S2048x64_S2048x16_S2048x48_S2048x384_d1 : FVec Ideal S2048x384 .f32) bitsLt_bf16_f32 := by
    show StableHlo.after hostOps0 (W0 m ρ c) (Proc.devRef .tc main_v15) = _
    after_results
    rfl
  rw [h, h']
  pointwise [weights_apply]
  split_ifs <;> first | omega | rfl | rw [dif_pos (by omega)]
  all_goals
    refine congrArg (fun i => m ((c.tc : Thread nD τ).loc main_arg3) (ix3 0 k i)) (Fin.ext ?_)
    dsimp only [auxCol]
    split_ifs <;> omega

/-- The argument arrays the regions read are as launched. -/
theorem entry_args (c : Dev nD) : V1 m ρ c main_arg0 = m ((c.tc : Thread nD τ).loc main_arg0)
    ∧ V1 m ρ c main_arg1 = m ((c.tc : Thread nD τ).loc main_arg1) :=
  ⟨W1_args m ρ c main_arg0 (by decide), W1_args m ρ c main_arg1 (by decide)⟩

theorem entry_gain (c : Dev nD) (d : Fin 2048) : (V1 m ρ c main_v17 : Vec Ideal S1x2048 .f32) (ix2 0 d)
    = m ((c.tc : Thread nD τ).loc main_arg2) (ix2 0 d) := by
  show (StableHlo.after hostOps0 (W0 m ρ c) (Proc.devRef .tc main_v17) : Vec Ideal S1x2048 .f32) (ix2 0 d) = _
  after_results
  pointwise []
/-- The whole projection of the kernel's arguments, every token onto every column. -/
def whole (c : Dev nD) (t : Fin 16384) (e : Fin 6480) : EReal :=
  projected (m ((c.tc : Thread nD τ).loc main_arg0)) (m ((c.tc : Thread nD τ).loc main_arg1))
    (m ((c.tc : Thread nD τ).loc main_arg2)) (m ((c.tc : Thread nD τ).loc main_arg3)) t e

/-- The rows the products read. -/
theorem rows_apply (c : Dev nD) (t : Fin 16384) (k : Fin 2048) : (V3 m ρ c main_v19 : Vec Ideal S16384x2048 .bf16) (ix2 t k)
    = normed (m ((c.tc : Thread nD τ).loc main_arg0)) (m ((c.tc : Thread nD τ).loc main_arg1))
        (m ((c.tc : Thread nD τ).loc main_arg2)) ⟨t.val / 2048, by omega⟩ ⟨t.val % 2048, by omega⟩ k := by
  rw [rows1, rows_eq, shapeCast_apply _ _ (ix2 t k) (ix3 ⟨t.val / 2048, by omega⟩ ⟨t.val % 2048, by omega⟩ k)]
  · rw [(entry_args m ρ c).1, (entry_args m ρ c).2]
    show normed _ _ (V1 m ρ c main_v17) ⟨t.val / 2048, by omega⟩ ⟨t.val % 2048, by omega⟩ k = _
    unfold normed
    rw [entry_gain]
  · rw [Shape.rowMajor_val_two, Shape.rowMajor_val_three]
    show (t.val / 2048 * 2048 + t.val % 2048) * 2048 + k.val = t.val * 2048 + k.val
    rw [Nat.div_add_mod']

theorem product_congr {n : ℕ} (a : Vec Ideal S16384x2048 .bf16) (w : (⟨2, ![2048, n]⟩ : Shape).Idx → EReal)
    (t : Fin 16384) (e : Fin n) (f g : Fin 2048 → EReal) (hf : ∀ k, a (ix2 t k) = f k) (hg : ∀ k, w (ix2 k e) = g k) :
    product a w t e = ∑ k : Fin 2048, f k * g k := by
  unfold product
  exact Finset.sum_congr rfl fun k _ => by rw [hf k, hg k]

/-- The three results of the kernel's run. -/
theorem kernel_main (c : Dev nD) : (W6 m ρ c (Proc.devRef .tc main_v20) : Vec Ideal S16384x5120 .bf16)
    = fun i => whole m c (i 0) (mainCol (i 1)) := by
  rw [W6_main, main_eq]
  funext i
  exact product_congr _ _ _ _ _ _ (rows_apply m ρ c (i 0)) fun k => weights_main m ρ c k (i 1)

theorem kernel_gate (c : Dev nD) : (W6 m ρ c (Proc.devRef .tc main_v21) : Vec Ideal S16384x1024 .f32)
    = fun i => whole m c (i 0) ⟨(i 1).val + 3408, by have : (i 1).val < 1024 := (i 1).isLt; omega⟩ := by
  rw [W6_gate, gate_eq]
  funext i
  have h : V4 m ρ c main_v19 = V3 m ρ c main_v19 := W4_of m ρ c main_v19 (by decide +kernel)
  rw [h]
  exact product_congr _ _ _ _ _ _ (rows_apply m ρ c (i 0)) fun k => weights_gate m ρ c k (i 1)

theorem kernel_aux (c : Dev nD) : (W6 m ρ c (Proc.devRef .tc main_v22) : Vec Ideal S16384x384 .f32)
    = fun i => if h : (i 1).val < 336 then whole m c (i 0) (auxCol ⟨(i 1).val, h⟩) else (0 : EReal) := by
  rw [W6_aux, aux_eq]
  funext i
  have h : V5 m ρ c main_v19 = V3 m ρ c main_v19 :=
    (W5_of m ρ c main_v19 (by decide +kernel)).trans (W4_of m ρ c main_v19 (by decide +kernel))
  rw [h]
  refine (product_congr _ _ _ _ _ _ (rows_apply m ρ c (i 0)) fun k => weights_aux m ρ c k (i 1)).trans ?_
  by_cases h : (i 1).val < 336
  · simp only [dif_pos h]
    rfl
  · simp only [dif_neg h]
    exact Finset.sum_eq_zero fun k _ => mul_zero _

end Cert.Projection

end
-- ==== Proof.Projection.Reference.lean ====
/- The reference of the input projection, read at an index: the projection of the normalised rows onto the columns of the
   weights, each result its own columns. -/
module

public import proofs.«01_k».proof.Proof.Gen.Reference2Ideal.Run
public import proofs.«01_k».proof.Proof.Projection.Value
public import Idealize.ShloMosaic.Lib.Pointwise

@[expose] public section

set_option maxRecDepth 16384

noncomputable section

namespace Cert.Projection.Ref

open Cert.Reference2Ideal Cert.Reference2Ideal.Gen Cert.Reference2Ideal.Value
open Idealize.ShloMosaic Idealize.ShloMosaic.TcCoe Idealize.SL.Sem Idealize.ShloMosaic.Tactic

variable (m : (ℓ : Loc nD τ sig) → Buf (Elt Ideal) ℓ)

/-- The whole projection of the reference, every token onto every column. -/
def whole (c : Dev nD) (t : Fin 16384) (e : Fin 6480) : EReal :=
  projected (m ((c.tc : Thread nD τ).loc main_arg0)) (m ((c.tc : Thread nD τ).loc main_arg1))
    (m ((c.tc : Thread nD τ).loc main_arg2)) (m ((c.tc : Thread nD τ).loc main_arg3)) t e

/-- The normalised rows: `x · (1 / √(mean x² + ε)) · g`. -/
def scaled (x : FVec Ideal S8x2048x2048 .f32) (g : FVec Ideal S1x2048 .f32) : FVec Ideal S8x2048x2048 .f32 :=
  mulf (mulf x (broadcastInDim S8x2048x2048 ![0, 1, 2] bcast_S8x2048x1_S8x2048x2048_0_1_2
      (Host.rsqrt (addf (Host.divf
          (broadcastInDim S8x2048x1 ![0, 1] bcast_S8x2048_S8x2048x1_0_1
            (Host.reduceAdd (mulf x x) (constant S_ .f32 0x00000000#32) reducesTo_S8x2048x2048_S8x2048_d2 h_S_))
          (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 (shapeCast S2048 g shapeCasts_S1x2048_S2048)))

/-- The modulated rows: `scaled · (1 + md₁) + md₀`. -/
def modulated (s : FVec Ideal S8x2048x2048 .f32) (md : FVec Ideal S8x6x2048 .f32) : FVec Ideal S8x2048x2048 .f32 :=
  addf (mulf s (broadcastInDim S8x2048x2048 ![0, 1, 2] bcast_S8x1x2048_S8x2048x2048_0_1_2
      (addf (broadcastInDim S8x1x2048 ![] bcast_S_S8x1x2048 (constant S_ .f32 0x3F800000#32))
        (broadcastInDim S8x1x2048 ![0, 2] bcast_S8x2048_S8x1x2048_0_2
          (shapeCast S8x2048 (extractStridedSlice S8x1x2048 ![0, 1, 0] md slices_S8x6x2048_S8x1x2048_0_1_0) shapeCasts_S8x1x2048_S8x2048)))))
    (broadcastInDim S8x2048x2048 ![0, 1, 2] bcast_S8x1x2048_S8x2048x2048_0_1_2
      (broadcastInDim S8x1x2048 ![0, 2] bcast_S8x2048_S8x1x2048_0_2
        (shapeCast S8x2048 (extractStridedSlice S8x1x2048 ![0, 0, 0] md slices_S8x6x2048_S8x1x2048_0_0_0) shapeCasts_S8x1x2048_S8x2048)))

/-- Every row's products with every column. -/
def dots (h : FVec Ideal S8x2048x2048 .f32) (w : FVec Ideal S1x2048x6480 .f32) : FVec Ideal S8x2048x6480 .f32 :=
  Host.dotGeneral dot_S8x2048x2048_S2048x6480_S8x2048x6480_2_0_01_1_n_n none h (shapeCast S2048x6480 w shapeCasts_S1x2048x6480_S2048x6480)

/-- The products with the batch and position axes merged. -/
def flat (c : Dev nD) : FVec Ideal S16384x6480 .f32 :=
  shapeCast S16384x6480 (dots (modulated (scaled (m ((c.tc : Thread nD τ).loc main_arg0)) (m ((c.tc : Thread nD τ).loc main_arg2)))
    (m ((c.tc : Thread nD τ).loc main_arg1))) (m ((c.tc : Thread nD τ).loc main_arg3))) shapeCasts_S8x2048x6480_S16384x6480

theorem modulated_apply (x : FVec Ideal S8x2048x2048 .f32) (g : FVec Ideal S1x2048 .f32) (md : FVec Ideal S8x6x2048 .f32)
    (b : Fin 8) (l d : Fin 2048) : modulated (scaled x g) md (ix3 b l d) = normed x md g b l d := by
  pointwise [modulated, scaled, normed, invRms]

theorem dots_apply (h : FVec Ideal S8x2048x2048 .f32) (w : FVec Ideal S1x2048x6480 .f32) (b : Fin 8) (l : Fin 2048) (e : Fin 6480) :
    dots h w (ix3 b l e) = ∑ k : Fin 2048, h (ix3 b l k) * w (ix3 0 k e) := by
  unfold dots
  generalize hw : shapeCast S2048x6480 w shapeCasts_S1x2048x6480_S2048x6480 = w'
  pointwise []
  subst hw
  exact Finset.sum_congr rfl fun k _ => congrArg (h (ix3 b l k) * ·) (ValueIdx.shapeCast_1ab_ab_apply _ _ _ _)

theorem flat_apply (c : Dev nD) (t : Fin 16384) (e : Fin 6480) : flat m c (ix2 t e) = whole m c t e := by
  unfold flat whole projected
  rw [shapeCast_apply _ _ (ix2 t e) (ix3 ⟨t.val / 2048, by omega⟩ ⟨t.val % 2048, by omega⟩ e), dots_apply]
  · simp only [modulated_apply]
  · rw [Shape.rowMajor_val_two, Shape.rowMajor_val_three]
    show (t.val / 2048 * 2048 + t.val % 2048) * 6480 + e.val = t.val * 6480 + e.val
    rw [Nat.div_add_mod']

theorem out0_eq (c : Dev nD) (t : Fin 16384) (e : Fin 5120) :
    (res_out0 m c : Vec Ideal S16384x5120 .bf16) (ix2 t e) = whole m c t (mainCol e) := by
  have h : (res_out0 m c : Vec Ideal S16384x5120 .bf16) = truncf (F := Ideal) .bf16 (fn_main_v38 (F := Ideal)
      (extractStridedSlice S16384x1024 ![0, 0] (flat m c) slices_S16384x6480_S16384x1024_0_0)
      (extractStridedSlice S16384x1024 ![0, 1280] (flat m c) slices_S16384x6480_S16384x1024_0_1280)
      (extractStridedSlice S16384x1024 ![0, 2384] (flat m c) slices_S16384x6480_S16384x1024_0_2384)
      (extractStridedSlice S16384x1024 ![0, 4432] (flat m c) slices_S16384x6480_S16384x1024_0_4432)
      (extractStridedSlice S16384x1024 ![0, 5456] (flat m c) slices_S16384x6480_S16384x1024_0_5456) : FVec Ideal S16384x5120 .f32)
      bitsLt_bf16_f32 := rfl
  rw [h]
  pointwise [fn_main_v38, flat_apply]
  split_ifs <;> first | omega | skip
  all_goals
    refine congrArg (whole m c t) (Fin.ext ?_)
    dsimp only [mainCol]
    split_ifs <;> omega

theorem out2_eq (c : Dev nD) (t : Fin 16384) (e : Fin 384) :
    (res_out2 m c : Vec Ideal S16384x384 .f32) (ix2 t e) = if h : e.val < 336 then whole m c t (auxCol ⟨e.val, h⟩) else (0 : EReal) := by
  have h : (res_out2 m c : Vec Ideal S16384x384 .f32) = fn_main_v41 (F := Ideal)
      (extractStridedSlice S16384x256 ![0, 1024] (flat m c) slices_S16384x6480_S16384x256_0_1024)
      (extractStridedSlice S16384x64 ![0, 2304] (flat m c) slices_S16384x6480_S16384x64_0_2304)
      (extractStridedSlice S16384x16 ![0, 2368] (flat m c) slices_S16384x6480_S16384x16_0_2368)
      (broadcastInDim S16384x48 ![] bcast_S_S16384x48 (constant (F := Ideal) S_ .f32 0x00000000#32)) := rfl
  rw [h]
  pointwise [fn_main_v41, flat_apply]
  split_ifs <;> first | omega | rfl | rw [dif_pos (by omega)]
  all_goals
    refine congrArg (whole m c t) (Fin.ext ?_)
    dsimp only [auxCol]
    split_ifs <;> omega

theorem gate_eq (c : Dev nD) (t : Fin 16384) (e : Fin 1024) :
    (extractStridedSlice S16384x1024 ![0, 3408] (flat m c) slices_S16384x6480_S16384x1024_0_3408 : FVec Ideal S16384x1024 .f32) (ix2 t e)
      = whole m c t ⟨e.val + 3408, by omega⟩ := by
  pointwise [flat_apply]
  refine congrArg (whole m c t) (Fin.ext ?_)
  dsimp only
  omega

end Cert.Projection.Ref

end
-- ==== Proof.Projection.Claims.lean ====
/- The claims about the input projection: the frames of kernel and reference, and the equality of their three results over
    the extended reals. -/
module

public import proofs.«01_k».proof.Defs
public import proofs.«01_k».proof.Proof.Gen.Kernel2.Frame
public import proofs.«01_k».proof.Proof.Projection.Reference
public import Idealize.ShloMosaic.Lib.Quiescent

@[expose] public section

set_option maxRecDepth 16384

noncomputable section

namespace Cert.Projection

open Idealize.ShloMosaic Idealize.ShloMosaic.TcCoe Idealize.SL.Sem

theorem frame_bits : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

section
open Cert.Kernel2Ideal Cert.Kernel2Ideal.Gen

/-- The kernel's run with its three results as projections of the arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_v21) = W6 m ρ c (Proc.devRef .tc main_v21)
      ∧ r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
    ⟨h.1 c _ (mem_uc main_v20 (by decide)), h.1 c _ (mem_uc main_v21 (by decide)), h.1 c _ (mem_uc main_v22 (by decide)),
      (h.1 c _ (mem_uc main_arg0 (by decide))).trans (W6_main_arg0 m ρ c),
      (h.1 c _ (mem_uc main_arg1 (by decide))).trans (W6_main_arg1 m ρ c),
      (h.1 c _ (mem_uc main_arg2 (by decide))).trans (W6_main_arg2 m ρ c),
      (h.1 c _ (mem_uc main_arg3 (by decide))).trans (W6_main_arg3 m ρ c)⟩) (run_all m ρ)

end

theorem algebraic : Cert.algebraic_Kernel2Ideal_Reference2Ideal := by
  intro m ρ m' ρ' _ hagree
  have hw : ∀ (c : Dev Cert.Kernel2Ideal.nD) (t : Fin 16384) (e : Fin 6480), Ref.whole m' c t e = whole m c t e := by
    intro c t e
    unfold Ref.whole whole
    rw [(hagree c).1, (hagree c).2.1, (hagree c).2.2.1, (hagree c).2.2.2]
  refine ⟨_, _, _, run_kernel m ρ, ?_⟩
  refine (θ_run _ _ _).mono (fun _ h c => ⟨(h c).1.trans ?_, (h c).2.1.trans ?_, (h c).2.2.1.trans ?_, (h c).2.2.2⟩)
    (Cert.Reference2Ideal.Value.run (F := Ideal) m' ρ')
  · refine Eq.trans ?_ (kernel_main m ρ c).symm
    refine funext fun (i : Cert.Kernel2Ideal.S16384x5120.Idx) => ?_
    rw [ValueIdx.eq_ix2 i]
    exact (Ref.out0_eq m' c (i 0) (i 1)).trans (hw c _ _)
  · refine Eq.trans ?_ (kernel_gate m ρ c).symm
    refine funext fun (i : Cert.Kernel2Ideal.S16384x1024.Idx) => ?_
    rw [ValueIdx.eq_ix2 i]
    exact (Ref.gate_eq m' c (i 0) (i 1)).trans (hw c _ _)
  · refine Eq.trans ?_ (kernel_aux m ρ c).symm
    refine funext fun (i : Cert.Kernel2Ideal.S16384x384.Idx) => ?_
    rw [ValueIdx.eq_ix2 i]
    refine (Ref.out2_eq m' c (i 0) (i 1)).trans ?_
    rw [show Ref.whole m' c = whole m c from funext fun t => funext fun e => hw c t e]
    rfl

end Cert.Projection

end
-- ==== Proof.Output.Rows.lean ====
/- What the output projection's launch computes at a grid point, at an index and over the extended reals: the residual
   rows, the normalised and modulated rows, and the router's logits. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Output

open Cert.Kernel3Ideal Cert.Kernel3Ideal.Gen
open Idealize.ShloMosaic Idealize.ShloMosaic.TcCoe Idealize.SL.Sem
open Idealize.ShloMosaic.Pipeline (Dat Cfg Window)

/-- The sequence a token belongs to: tokens are numbered sequence by sequence, 2048 to each. -/
def seqOf (t : Fin 16384) : Fin 8 := ⟨t.val / 2048, by omega⟩

/-- Token `t`'s row after attention: the residual plus the gated product of its heads (the first 1024 columns from `oa`,
    the rest from `ob`) with the output weights. -/
def mixed (x : Fin 16384 → Fin 2048 → EReal) (oa ob : Vec Ideal S16384x1024 .bf16) (w : Fin 2048 → Fin 2048 → EReal)
    (md : Vec Ideal S8x6x2048 .f32) (t : Fin 16384) (d : Fin 2048) : EReal :=
  x t d + md (ix3 (seqOf t) 2 d) * (∑ k : Fin 1024, oa (ix2 t k) * w ⟨k.val, by omega⟩ d
    + ∑ k : Fin 1024, ob (ix2 t k) * w ⟨1024 + k.val, by omega⟩ d)

/-- A row's root mean square, inverted: `1 / √(mean y² + ε)`. -/
def invRms (y : Fin 16384 → Fin 2048 → EReal) (t : Fin 16384) : EReal :=
  FloatOps.rsqrt (F := Ideal) (φ := .f32)
    (Ideal.div (∑ k : Fin 2048, y t k * y t k) (Scalar.ofBits (F := Ideal) .f32 0x45000000#32 : EReal)
      + (Scalar.ofBits (F := Ideal) .f32 0x358637BD#32 : EReal))

/-- The normalised row, scaled by `1 + modulation row 4` and shifted by `modulation row 3`. -/
def modulated (y : Fin 16384 → Fin 2048 → EReal) (g : Fin 2048 → EReal) (md : Vec Ideal S8x6x2048 .f32)
    (t : Fin 16384) (d : Fin 2048) : EReal :=
  y t d * invRms y t * g d * ((Scalar.ofBits (F := Ideal) .f32 0x3F800000#32 : EReal) + md (ix3 (seqOf t) 4 d))
    + md (ix3 (seqOf t) 3 d)

/-- The router's logit of expert `e` at token `t`. -/
def logit (r : Fin 64 → Fin 2048 → EReal) (h : Fin 16384 → Fin 2048 → EReal) (e : Fin 64) (t : Fin 16384) : EReal :=
  ∑ k : Fin 2048, r e k * h t k

variable (m : (ℓ : Loc nD τ sig) → Buf (Elt Ideal) ℓ)

/-- The rows of residuals, the output weights, the gain and the router's weights, as the launch finds them. -/
def resid (c : Dev nD) (t : Fin 16384) (d : Fin 2048) : EReal := (V m c main_v0 : Vec Ideal S16384x2048 .f32) (ix2 t d)
def outW (c : Dev nD) (k d : Fin 2048) : EReal := (V m c main_v2 : Vec Ideal S2048x2048 .bf16) (ix2 k d)
def gain (c : Dev nD) (d : Fin 2048) : EReal := (V m c main_v7 : Vec Ideal S1x2048 .f32) (ix2 0 d)
def routerW (c : Dev nD) (e : Fin 64) (k : Fin 2048) : EReal := (V m c main_v6 : Vec Ideal S64x2048 .bf16) (ix2 e k)

/-- The residual rows after attention, as the launch computes them. -/
def rowsAfter (c : Dev nD) : Fin 16384 → Fin 2048 → EReal :=
  mixed (resid m c) (V m c main_arg0) (V m c main_arg1) (outW m c) (V m c main_arg4)

/-- The modulated rows, as the launch computes them. -/
def rowsNormed (c : Dev nD) : Fin 16384 → Fin 2048 → EReal :=
  modulated (rowsAfter m c) (gain m c) (V m c main_arg4)

/-- Every window's block index at a grid point: rows (columns, for the logits) in steps of 512; the two halves of the
    weights; the modulation of the sequence. -/
theorem index0 : ∀ t : Fin cfg0.N, (cfg0.win 0).index t = ![(cfg0.grid.coords t 0).val, 0]
    ∧ (cfg0.win 1).index t = ![(cfg0.grid.coords t 0).val, 0]
    ∧ (cfg0.win 2).index t = ![(cfg0.grid.coords t 0).val, 0]
    ∧ (cfg0.win 3).index t = ![0, 0]
    ∧ (cfg0.win 4).index t = ![1, 0]
    ∧ (cfg0.win 5).index t = ![(cfg0.grid.coords t 0).val / 4, 0, 0]
    ∧ (cfg0.win 6).index t = ![0, 0]
    ∧ (cfg0.win 7).index t = ![0, 0]
    ∧ (cfg0.win 8).index t = ![(cfg0.grid.coords t 0).val, 0]
    ∧ (cfg0.win 9).index t = ![(cfg0.grid.coords t 0).val, 0]
    ∧ (cfg0.win 10).index t = ![0, (cfg0.grid.coords t 0).val] := by decide +kernel

/-- The token of row `a` of grid point `t`. -/
def tokenAt (t : Fin cfg0.N) (a : Fin 512) : Fin 16384 :=
  ⟨(cfg0.grid.coords t 0).val * 512 + a.val, by
    have : (cfg0.grid.coords t 0).val < 32 := (cfg0.grid.coords t 0).isLt
    omega⟩

theorem blk_oa (c : Dev nD) (t : Fin cfg0.N) (a : Fin 512) (k : Fin 1024) :
    (iblk m c 0 t : Vec Ideal S512x1024 .bf16) (ix2 a k) = (V m c main_arg0 : Vec Ideal S16384x1024 .bf16) (ix2 (tokenAt t a) k) := by
  have e := (index0 t).1
  refine congrArg (V m c main_arg0 : Vec Ideal S16384x1024 .bf16) (funext fun (q : Fin 2) => ?_)
  match q with
  | 0 => apply Fin.ext; blk_simp [e, tokenAt]
  | 1 => apply Fin.ext; blk_simp [e]

theorem blk_ob (c : Dev nD) (t : Fin cfg0.N) (a : Fin 512) (k : Fin 1024) :
    (iblk m c 1 t : Vec Ideal S512x1024 .bf16) (ix2 a k) = (V m c main_arg1 : Vec Ideal S16384x1024 .bf16) (ix2 (tokenAt t a) k) := by
  have e := (index0 t).2.1
  refine congrArg (V m c main_arg1 : Vec Ideal S16384x1024 .bf16) (funext fun (q : Fin 2) => ?_)
  match q with
  | 0 => apply Fin.ext; blk_simp [e, tokenAt]
  | 1 => apply Fin.ext; blk_simp [e]

theorem blk_resid (c : Dev nD) (t : Fin cfg0.N) (a : Fin 512) (d : Fin 2048) :
    (iblk m c 2 t : Vec Ideal S512x2048 .f32) (ix2 a d) = resid m c (tokenAt t a) d := by
  have e := (index0 t).2.2.1
  refine congrArg (V m c main_v0 : Vec Ideal S16384x2048 .f32) (funext fun (q : Fin 2) => ?_)
  match q with
  | 0 => apply Fin.ext; blk_simp [e, tokenAt]
  | 1 => apply Fin.ext; blk_simp [e]

theorem blk_upper (c : Dev nD) (t : Fin cfg0.N) (k : Fin 1024) (d : Fin 2048) :
    (iblk m c 3 t : Vec Ideal S1024x2048 .bf16) (ix2 k d) = outW m c ⟨k.val, by omega⟩ d := by
  have e := (index0 t).2.2.2.1
  refine congrArg (V m c main_v2 : Vec Ideal S2048x2048 .bf16) (funext fun (q : Fin 2) => ?_)
  match q with
  | 0 => apply Fin.ext; blk_simp [e]
  | 1 => apply Fin.ext; blk_simp [e]

theorem blk_lower (c : Dev nD) (t : Fin cfg0.N) (k : Fin 1024) (d : Fin 2048) :
    (iblk m c 4 t : Vec Ideal S1024x2048 .bf16) (ix2 k d) = outW m c ⟨1024 + k.val, by omega⟩ d := by
  have e := (index0 t).2.2.2.2.1
  refine congrArg (V m c main_v2 : Vec Ideal S2048x2048 .bf16) (funext fun (q : Fin 2) => ?_)
  match q with
  | 0 => apply Fin.ext; blk_simp [e]
  | 1 => apply Fin.ext; blk_simp [e]

theorem blk_mod (c : Dev nD) (t : Fin cfg0.N) (a : Fin 512) (j : Fin 6) (d : Fin 2048) :
    (iblk m c 5 t : Vec Ideal S1x6x2048 .f32) (ix3 0 j d) = (V m c main_arg4 : Vec Ideal S8x6x2048 .f32) (ix3 (seqOf (tokenAt t a)) j d) := by
  have e := (index0 t).2.2.2.2.2.1
  refine congrArg (V m c main_arg4 : Vec Ideal S8x6x2048 .f32) (funext fun (q : Fin 3) => ?_)
  match q with
  | 0 =>
    apply Fin.ext
    blk_simp [e]
    show (cfg0.grid.coords t 0).val / 4 = ((cfg0.grid.coords t 0).val * 512 + a.val) / 2048
    omega
  | 1 => apply Fin.ext; blk_simp [e]
  | 2 => apply Fin.ext; blk_simp [e]

theorem blk_gain (c : Dev nD) (t : Fin cfg0.N) (d : Fin 2048) :
    (iblk m c 6 t : Vec Ideal S1x2048 .f32) (ix2 0 d) = gain m c d := by
  have e := (index0 t).2.2.2.2.2.2.1
  refine congrArg (V m c main_v7 : Vec Ideal S1x2048 .f32) (funext fun (q : Fin 2) => ?_)
  match q with
  | 0 => apply Fin.ext; blk_simp [e]
  | 1 => apply Fin.ext; blk_simp [e]

theorem blk_router (c : Dev nD) (t : Fin cfg0.N) (r : Fin 64) (k : Fin 2048) :
    (iblk m c 7 t : Vec Ideal S64x2048 .bf16) (ix2 r k) = routerW m c r k := by
  have e := (index0 t).2.2.2.2.2.2.2.1
  refine congrArg (V m c main_v6 : Vec Ideal S64x2048 .bf16) (funext fun (q : Fin 2) => ?_)
  match q with
  | 0 => apply Fin.ext; blk_simp [e]
  | 1 => apply Fin.ext; blk_simp [e]

/-- The residual rows of a grid point. -/
theorem rows_at (c : Dev nD) (t : Fin cfg0.N) (a : Fin 512) (d : Fin 2048) :
    k0_pay4 (F := Ideal) (View.ld (iblk m c 0 t) r0_0) (View.ld (iblk m c 3 t) r0_1) (View.ld (iblk m c 1 t) r0_0)
      (View.ld (iblk m c 4 t) r0_1) (View.ld (iblk m c 2 t) r0_2) (View.ld (iblk m c 5 t) r0_3) (ix2 a d)
      = rowsAfter m c (tokenAt t a) d := by
  pointwise [k0_pay4]
  simp only [blk_oa, blk_ob, blk_upper, blk_lower, blk_resid, blk_mod m c t a]
  rfl

/-- The body's normalisation of rows it has named `p`. -/
theorem pay5_apply (v0 : Vec Ideal S512x1024 .bf16) (v1 : Vec Ideal S1024x2048 .bf16) (v4 : Vec Ideal S512x1024 .bf16)
    (v5 : Vec Ideal S1024x2048 .bf16) (v9 : Vec Ideal S512x2048 .f32) (v11 : Vec Ideal S1x1x2048 .f32) (v27 : Vec Ideal S1x2048 .f32)
    (a : Fin 512) (p : Fin 2048 → EReal) (hp : ∀ x, k0_pay4 (F := Ideal) v0 v1 v4 v5 v9 v11 (ix2 a x) = p x) (d : Fin 2048) :
    k0_pay5 (F := Ideal) v0 v1 v4 v5 v9 v11 v27 (ix2 a d)
      = p d * FloatOps.rsqrt (F := Ideal) (φ := .f32)
          (Ideal.div (∑ k : Fin 2048, p k * p k) (Scalar.ofBits (F := Ideal) .f32 0x45000000#32 : EReal)
            + (Scalar.ofBits (F := Ideal) .f32 0x358637BD#32 : EReal)) * v27 (ix2 0 d) := by
  pointwise [k0_pay5, hp]

/-- The body's modulation. -/
theorem pay1_apply (v30 : Vec Ideal S512x2048 .f32) (v32 : Vec Ideal S1x2048 .f32) (v37 : Vec Ideal S1x1x2048 .f32)
    (a : Fin 512) (d : Fin 2048) : k0_pay1 (F := Ideal) v30 v32 v37 (ix2 a d)
      = v30 (ix2 a d) * ((Scalar.ofBits (F := Ideal) .f32 0x3F800000#32 : EReal) + v32 (ix2 0 d)) + v37 (ix3 0 0 d) := by
  pointwise [k0_pay1]

/-- The body's logits of rows it has named `p`. -/
theorem pay3_apply (v30 : Vec Ideal S512x2048 .f32) (v32 : Vec Ideal S1x2048 .f32) (v37 : Vec Ideal S1x1x2048 .f32)
    (v43 : Vec Ideal S64x2048 .bf16) (a : Fin 512) (p : Fin 2048 → EReal)
    (hp : ∀ x, k0_pay1 (F := Ideal) v30 v32 v37 (ix2 a x) = p x) (r : Fin 64) :
    k0_pay3 (F := Ideal) v30 v32 v37 v43 (ix2 r a) = ∑ k : Fin 2048, v43 (ix2 r k) * p k := by
  pointwise [k0_pay3, hp]

theorem pay2_apply (v30 : Vec Ideal S512x2048 .f32) (v32 : Vec Ideal S1x2048 .f32) (v37 : Vec Ideal S1x1x2048 .f32)
    (i : S512x2048.Idx) : k0_pay2 (F := Ideal) v30 v32 v37 i = k0_pay1 (F := Ideal) v30 v32 v37 i := by
  pointwise [k0_pay2]

/-- The normalised, not yet modulated, rows of a grid point. -/
theorem scaled_at (c : Dev nD) (t : Fin cfg0.N) (a : Fin 512) (d : Fin 2048) :
    k0_pay7 (F := Ideal) (iblk m c 0 t) (iblk m c 1 t) (iblk m c 2 t) (iblk m c 3 t) (iblk m c 4 t) (iblk m c 5 t)
      (iblk m c 6 t) (iblk m c 7 t) (ix2 a d)
      = rowsAfter m c (tokenAt t a) d * invRms (rowsAfter m c) (tokenAt t a) * gain m c d := by
  unfold k0_pay7
  refine (pay5_apply _ _ _ _ _ _ _ a _ (rows_at m c t a) d).trans ?_
  unfold invRms
  pointwise [blk_gain]

/-- The modulated rows of a grid point. -/
theorem normed_at (c : Dev nD) (t : Fin cfg0.N) (a : Fin 512) (d : Fin 2048) :
    k0_pay1 (F := Ideal) (k0_pay7 (iblk m c 0 t) (iblk m c 1 t) (iblk m c 2 t) (iblk m c 3 t) (iblk m c 4 t)
      (iblk m c 5 t) (iblk m c 6 t) (iblk m c 7 t)) (k0_pay8 (iblk m c 0 t) (iblk m c 1 t) (iblk m c 2 t) (iblk m c 3 t)
      (iblk m c 4 t) (iblk m c 5 t) (iblk m c 6 t) (iblk m c 7 t)) (View.ld (iblk m c 5 t) r0_6) (ix2 a d)
      = rowsNormed m c (tokenAt t a) d := by
  refine (pay1_apply _ _ _ a d).trans ?_
  rw [scaled_at]
  unfold rowsNormed modulated
  pointwise [k0_pay8, k0_pay6]
  simp only [blk_mod m c t a]

theorem emb_rows (t : Fin cfg0.N) (a : Fin 512) (d : Fin 2048) : (win0_8.blk t).view.emb (ix2 a d) = ix2 (tokenAt t a) d := by
  have e := (index0 t).2.2.2.2.2.2.2.2.1
  refine funext fun (q : Fin 2) => ?_
  match q with
  | 0 => apply Fin.ext; blk_simp [e, tokenAt]
  | 1 => apply Fin.ext; blk_simp [e]

theorem emb_normed (t : Fin cfg0.N) (a : Fin 512) (d : Fin 2048) : (win0_9.blk t).view.emb (ix2 a d) = ix2 (tokenAt t a) d := by
  have e := (index0 t).2.2.2.2.2.2.2.2.2.1
  refine funext fun (q : Fin 2) => ?_
  match q with
  | 0 => apply Fin.ext; blk_simp [e, tokenAt]
  | 1 => apply Fin.ext; blk_simp [e]

theorem emb_logits (t : Fin cfg0.N) (r : Fin 64) (a : Fin 512) : (win0_10.blk t).view.emb (ix2 r a) = ix2 r (tokenAt t a) := by
  have e := (index0 t).2.2.2.2.2.2.2.2.2.2
  refine funext fun (q : Fin 2) => ?_
  match q with
  | 0 => apply Fin.ext; blk_simp [e]
  | 1 => apply Fin.ext; blk_simp [e, tokenAt]

end Cert.Output

end
-- ==== Proof.Output.Arrays.lean ====
/- The three arrays the output projection's launch leaves, as functions of the arrays it reads. -/
module

public import proofs.«01_k».proof.Proof.Output.Rows
public import Idealize.ShloMosaic.Lib.Pipeline.ValueKit
public import Idealize.ShloMosaic.Lib.Pointwise

@[expose] public section

set_option maxRecDepth 16384

noncomputable section

namespace Cert.Output

open Cert.Kernel3Ideal Cert.Kernel3Ideal.Gen
open Idealize.ShloMosaic Idealize.ShloMosaic.TcCoe Idealize.SL.Sem
open Idealize.ShloMosaic.Pipeline (Dat Cfg Window)

variable (m : (ℓ : Loc nD τ sig) → Buf (Elt Ideal) ℓ)

set_option maxHeartbeats 1000000 in
/-- The first result: the residual rows. -/
theorem rows_eq (c : Dev nD) : (dats m 0 c).arrAt 8 cfg0.N = fun i => rowsAfter m c (i 0) (i 1) := by
  refine (dats m 0 c).arrAt_eq_of_covers 8 _ (by decide +kernel) fun t hf y => ?_
  blk_simp
  rw [after0_8]
  unfold out0_8
  frame_out
  revert y
  intro (y : S512x2048.Idx)
  idx_vars y
  change _ = rowsAfter m c ((win0_8.blk t).view.emb (ix2 y0 y1) 0) ((win0_8.blk t).view.emb (ix2 y0 y1) 1)
  rw [emb_rows t y0 y1]
  pointwise [k0_pay4]
  simp only [blk_oa, blk_ob, blk_upper, blk_lower, blk_resid, blk_mod m c t y0]
  rfl

set_option maxHeartbeats 1000000 in
/-- The second result: the modulated rows. -/
theorem normed_eq (c : Dev nD) : (dats m 0 c).arrAt 9 cfg0.N = fun i => rowsNormed m c (i 0) (i 1) := by
  refine (dats m 0 c).arrAt_eq_of_covers 9 _ (by decide +kernel) fun t hf y => ?_
  blk_simp
  rw [after0_9]
  unfold out0_9
  frame_out
  revert y
  intro (y : S512x2048.Idx)
  idx_vars y
  change _ = rowsNormed m c ((win0_9.blk t).view.emb (ix2 y0 y1) 0) ((win0_9.blk t).view.emb (ix2 y0 y1) 1)
  rw [emb_normed t y0 y1]
  refine (pay2_apply _ _ _ _).trans ?_
  exact normed_at m c t y0 y1

set_option maxHeartbeats 1000000 in
/-- The third result: the logits. -/
theorem logits_eq (c : Dev nD) : (dats m 0 c).arrAt 10 cfg0.N = fun i => logit (routerW m c) (rowsNormed m c) (i 0) (i 1) := by
  refine (dats m 0 c).arrAt_eq_of_covers 10 _ (by decide +kernel) fun t hf y => ?_
  blk_simp
  rw [after0_10]
  unfold out0_10
  frame_out
  revert y
  intro (y : S64x512.Idx)
  idx_vars y
  change _ = logit (routerW m c) (rowsNormed m c) ((win0_10.blk t).view.emb (ix2 y0 y1) 0) ((win0_10.blk t).view.emb (ix2 y0 y1) 1)
  rw [emb_logits t y0 y1]
  refine (pay3_apply _ _ _ _ y1 _ (normed_at m c t y1) y0).trans ?_
  unfold logit
  pointwise [blk_router]

end Cert.Output

end
-- ==== Proof.Output.Value.lean ====
/- The output projection's value: the three results as functions of the seven arguments, and the kernel's run with its
   results as those functions. -/
module

public import proofs.«01_k».proof.Proof.Output.Arrays
public import Idealize.ShloMosaic.Lib.ValueLayout

@[expose] public section

set_option maxRecDepth 16384

noncomputable section

namespace Cert.Output

open Cert.Kernel3Ideal Cert.Kernel3Ideal.Gen
open Idealize.ShloMosaic Idealize.ShloMosaic.TcCoe Idealize.SL.Sem Idealize.ShloMosaic.Tactic
open Idealize.ShloMosaic.Pipeline (Dat Cfg Window)

/-- The position of a token in its sequence. -/
def posOf (t : Fin 16384) : Fin 2048 := ⟨t.val % 2048, by omega⟩

/-- The residual rows after attention. -/
def rowsOf (oa ob : Vec Ideal S16384x1024 .bf16) (x : Vec Ideal S8x2048x2048 .f32) (w : Vec Ideal S1x2048x2048 .f32)
    (md : Vec Ideal S8x6x2048 .f32) : Fin 16384 → Fin 2048 → EReal :=
  mixed (fun t d => x (ix3 (seqOf t) (posOf t) d)) oa ob (fun k d => w (ix3 0 k d)) md

/-- The normalised and modulated rows. -/
def normedOf (oa ob : Vec Ideal S16384x1024 .bf16) (x : Vec Ideal S8x2048x2048 .f32) (w : Vec Ideal S1x2048x2048 .f32)
    (md : Vec Ideal S8x6x2048 .f32) (g : Vec Ideal S1x2048 .f32) : Fin 16384 → Fin 2048 → EReal :=
  modulated (rowsOf oa ob x w md) (fun d => g (ix2 0 d)) md

/-- The router's logits. -/
def logitsOf (oa ob : Vec Ideal S16384x1024 .bf16) (x : Vec Ideal S8x2048x2048 .f32) (w : Vec Ideal S1x2048x2048 .f32)
    (md : Vec Ideal S8x6x2048 .f32) (g : Vec Ideal S1x2048 .f32) (r : Vec Ideal S1x2048x64 .f32) : Fin 64 → Fin 16384 → EReal :=
  logit (fun e k => r (ix3 0 k e)) (normedOf oa ob x w md g)

/-- A row of the merged token axis is a row of its sequence. -/
theorem merge_apply (x : Vec Ideal S8x2048x2048 .f32) (h : S8x2048x2048.ShapeCasts S16384x2048) (t : Fin 16384) (d : Fin 2048) :
    (shapeCast S16384x2048 x h : Vec Ideal S16384x2048 .f32) (ix2 t d) = x (ix3 (seqOf t) (posOf t) d) := by
  refine shapeCast_apply _ _ (ix2 t d) (ix3 (seqOf t) (posOf t) d) ?_
  rw [Shape.rowMajor_val_two, Shape.rowMajor_val_three]
  show (t.val / 2048 * 2048 + t.val % 2048) * 2048 + d.val = t.val * 2048 + d.val
  rw [Nat.div_add_mod']

variable (m : (ℓ : Loc nD τ sig) → Buf (Elt Ideal) ℓ) (ρ : Dev nD → PrngReg)

theorem resid_eq (c : Dev nD) (t : Fin 16384) (d : Fin 2048) : resid m c t d
    = (m ((c.tc : Thread nD τ).loc main_arg2) : Vec Ideal S8x2048x2048 .f32) (ix3 (seqOf t) (posOf t) d) := by
  unfold resid
  rw [show (V m c main_v0 : Vec Ideal S16384x2048 .f32)
      = shapeCast S16384x2048 (m ((c.tc : Thread nD τ).loc main_arg2) : Vec Ideal S8x2048x2048 .f32) shapeCasts_S8x2048x2048_S16384x2048 from by
    show StableHlo.after hostOps0 _ (Proc.devRef .tc main_v0) = _
    after_results
    rfl]
  exact merge_apply _ _ t d

theorem outW_eq (c : Dev nD) (k d : Fin 2048) : outW m c k d
    = (m ((c.tc : Thread nD τ).loc main_arg3) : Vec Ideal S1x2048x2048 .f32) (ix3 0 k d) := by
  unfold outW
  rw [show (V m c main_v2 : Vec Ideal S2048x2048 .bf16)
      = truncf (F := Ideal) .bf16 (shapeCast S2048x2048 (m ((c.tc : Thread nD τ).loc main_arg3) : Vec Ideal S1x2048x2048 .f32)
          shapeCasts_S1x2048x2048_S2048x2048 : FVec Ideal S2048x2048 .f32) bitsLt_bf16_f32 from by
    show StableHlo.after hostOps0 _ (Proc.devRef .tc main_v2) = _
    after_results
    rfl]
  exact ValueIdx.shapeCast_1ab_ab_apply _ _ _ _

theorem gain_eq (c : Dev nD) (d : Fin 2048) : gain m c d
    = (m ((c.tc : Thread nD τ).loc main_arg5) : Vec Ideal S1x2048 .f32) (ix2 0 d) := by
  unfold gain
  show (StableHlo.after hostOps0 _ (Proc.devRef .tc main_v7) : Vec Ideal S1x2048 .f32) (ix2 0 d) = _
  after_results
  pointwise []

theorem routerW_eq (c : Dev nD) (e : Fin 64) (k : Fin 2048) : routerW m c e k
    = (m ((c.tc : Thread nD τ).loc main_arg6) : Vec Ideal S1x2048x64 .f32) (ix3 0 k e) := by
  unfold routerW
  rw [show (V m c main_v6 : Vec Ideal S64x2048 .bf16)
      = truncf (F := Ideal) .bf16 (transpose S64x2048 [1, 0] (shapeCast S2048x64 (m ((c.tc : Thread nD τ).loc main_arg6) : Vec Ideal S1x2048x64 .f32)
          shapeCasts_S1x2048x64_S2048x64 : FVec Ideal S2048x64 .f32) transposes_S2048x64_S64x2048_1_0 : FVec Ideal S64x2048 .f32) bitsLt_bf16_f32 from by
    show StableHlo.after hostOps0 _ (Proc.devRef .tc main_v6) = _
    after_results
    rfl]
  generalize hw : shapeCast S2048x64 (m ((c.tc : Thread nD τ).loc main_arg6) : Vec Ideal S1x2048x64 .f32) shapeCasts_S1x2048x64_S2048x64 = w'
  pointwise []
  subst hw
  exact ValueIdx.shapeCast_1ab_ab_apply _ _ _ _

/-- The rows the launch computes are those of the arguments. -/
theorem rowsAfter_eq (c : Dev nD) : rowsAfter m c = rowsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold rowsAfter rowsOf
  rw [V_main_arg0, V_main_arg1, V_main_arg4, show resid m c = _ from funext fun t => funext fun d => resid_eq m c t d,
    show outW m c = _ from funext fun k => funext fun d => outW_eq m c k d]

theorem rowsNormed_eq (c : Dev nD) : rowsNormed m c = normedOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  unfold rowsNormed normedOf
  rw [rowsAfter_eq, V_main_arg4, show gain m c = _ from funext fun d => gain_eq m c d]

/-- The kernel's run with its three results. -/
theorem run_kernel : θ_run (defs (F := Ideal)) (onTc (τ := τ) (main (F := Ideal))) ⟨m, fun _ => 0, ρ⟩ (fun r => ∀ c : Dev nD,
      r.2.mem ((c.tc : Thread nD τ).loc main_v8_0) = (fun i => rowsOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (i 0) (i 1) : Vec Ideal S16384x2048 .f32)
      ∧ r.2.mem ((c.tc : Thread nD τ).loc main_v8_1) = (fun i => normedOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (i 0) (i 1) : Vec Ideal S16384x2048 .bf16)
      ∧ r.2.mem ((c.tc : Thread nD τ).loc main_v8_2) = (fun i => logitsOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (i 0) (i 1) : Vec Ideal S64x16384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c =>
    ⟨((h.1 c).1 8).trans ((rows_eq m c).trans (by rw [rowsAfter_eq]; rfl)),
      ((h.1 c).1 9).trans ((normed_eq m c).trans (by rw [rowsNormed_eq]; rfl)),
      ((h.1 c).1 10).trans ((logits_eq m c).trans (by
        unfold logitsOf
        rw [rowsNormed_eq, show routerW m c = _ from funext fun e => funext fun k => routerW_eq m c e k]
        rfl)),
      h.2 c⟩)
    (θ_run_and (run_main m ρ) (unchanged m ρ))

end Cert.Output

end
-- ==== Proof.Output.Reference.lean ====
/- The reference of the output projection, read at an index: its three results are the functions of the arguments that the
   kernel's are. -/
module

public import proofs.«01_k».proof.Proof.Gen.Reference3Ideal.Run
public import proofs.«01_k».proof.Proof.Output.Value

@[expose] public section

set_option maxRecDepth 16384

noncomputable section

namespace Cert.Output.Ref

open Cert.Reference3Ideal Cert.Reference3Ideal.Gen Cert.Reference3Ideal.Value
open Idealize.ShloMosaic Idealize.ShloMosaic.TcCoe Idealize.SL.Sem Idealize.ShloMosaic.Tactic

variable (m : (ℓ : Loc nD τ sig) → Buf (Elt Ideal) ℓ)

/-- The heads of both halves side by side, by sequence and position. -/
def heads (oa ob : FVec Ideal S16384x1024 .bf16) : FVec Ideal S8x2048x2048 .f32 :=
  shapeCast S8x2048x2048 (extf (F := Ideal) .f32 (fn_main_v6 (F := Ideal) oa ob : FVec Ideal S16384x2048 .bf16) bitsLt_bf16_f32 : FVec Ideal S16384x2048 .f32)
    shapeCasts_S16384x2048_S8x2048x2048

/-- The heads' products with the output weights. -/
def product (h : FVec Ideal S8x2048x2048 .f32) (w : FVec Ideal S1x2048x2048 .f32) : FVec Ideal S8x2048x2048 .f32 :=
  Host.dotGeneral dot_S8x2048x2048_S2048x2048_S8x2048x2048_2_0_01_1_n_n none h (shapeCast S2048x2048 w shapeCasts_S1x2048x2048_S2048x2048)

/-- The residual rows after attention. -/
def after (x : FVec Ideal S8x2048x2048 .f32) (p : FVec Ideal S8x2048x2048 .f32) (md : FVec Ideal S8x6x2048 .f32) : FVec Ideal S8x2048x2048 .f32 :=
  addf x (mulf (broadcastInDim S8x2048x2048 ![0, 1, 2] bcast_S8x1x2048_S8x2048x2048_0_1_2
    (broadcastInDim S8x1x2048 ![0, 2] bcast_S8x2048_S8x1x2048_0_2
      (shapeCast S8x2048 (extractStridedSlice S8x1x2048 ![0, 2, 0] md slices_S8x6x2048_S8x1x2048_0_2_0) shapeCasts_S8x1x2048_S8x2048))) p)

/-- The normalised rows. -/
def scaled (x : FVec Ideal S8x2048x2048 .f32) (g : FVec Ideal S1x2048 .f32) : FVec Ideal S8x2048x2048 .f32 :=
  mulf (mulf x (broadcastInDim S8x2048x2048 ![0, 1, 2] bcast_S8x2048x1_S8x2048x2048_0_1_2
      (Host.rsqrt (addf (Host.divf
          (broadcastInDim S8x2048x1 ![0, 1] bcast_S8x2048_S8x2048x1_0_1
            (Host.reduceAdd (mulf x x) (constant S_ .f32 0x00000000#32) reducesTo_S8x2048x2048_S8x2048_d2 h_S_))
          (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 (shapeCast S2048 g shapeCasts_S1x2048_S2048)))

/-- The modulated rows. -/
def shifted (s : FVec Ideal S8x2048x2048 .f32) (md : FVec Ideal S8x6x2048 .f32) : FVec Ideal S8x2048x2048 .f32 :=
  addf (mulf s (broadcastInDim S8x2048x2048 ![0, 1, 2] bcast_S8x1x2048_S8x2048x2048_0_1_2
      (addf (broadcastInDim S8x1x2048 ![] bcast_S_S8x1x2048 (constant S_ .f32 0x3F800000#32))
        (broadcastInDim S8x1x2048 ![0, 2] bcast_S8x2048_S8x1x2048_0_2
          (shapeCast S8x2048 (extractStridedSlice S8x1x2048 ![0, 4, 0] md slices_S8x6x2048_S8x1x2048_0_4_0) shapeCasts_S8x1x2048_S8x2048)))))
    (broadcastInDim S8x2048x2048 ![0, 1, 2] bcast_S8x1x2048_S8x2048x2048_0_1_2
      (broadcastInDim S8x1x2048 ![0, 2] bcast_S8x2048_S8x1x2048_0_2
        (shapeCast S8x2048 (extractStridedSlice S8x1x2048 ![0, 3, 0] md slices_S8x6x2048_S8x1x2048_0_3_0) shapeCasts_S8x1x2048_S8x2048)))

/-- The residual rows of the reference's arguments, and the modulated rows with their token axes merged. -/
def rowsArr (c : Dev nD) : FVec Ideal S8x2048x2048 .f32 :=
  after (m ((c.tc : Thread nD τ).loc main_arg2)) (product (heads (m ((c.tc : Thread nD τ).loc main_arg0)) (m ((c.tc : Thread nD τ).loc main_arg1)))
    (m ((c.tc : Thread nD τ).loc main_arg3))) (m ((c.tc : Thread nD τ).loc main_arg4))

def normedArr (c : Dev nD) : FVec Ideal S16384x2048 .f32 :=
  shapeCast S16384x2048 (shifted (scaled (rowsArr m c) (m ((c.tc : Thread nD τ).loc main_arg5))) (m ((c.tc : Thread nD τ).loc main_arg4)))
    shapeCasts_S8x2048x2048_S16384x2048

theorem heads_apply (oa ob : FVec Ideal S16384x1024 .bf16) (t : Fin 16384) (k : Fin 2048) : heads oa ob (ix3 (seqOf t) (posOf t) k)
    = if h : k.val < 1024 then oa (ix2 t ⟨k.val, h⟩) else ob (ix2 t ⟨k.val - 1024, by omega⟩) := by
  unfold heads
  rw [shapeCast_apply _ _ (ix3 (seqOf t) (posOf t) k) (ix2 t k)]
  · pointwise [fn_main_v6]
  · rw [Shape.rowMajor_val_two, Shape.rowMajor_val_three]
    show t.val * 2048 + k.val = (t.val / 2048 * 2048 + t.val % 2048) * 2048 + k.val
    rw [Nat.div_add_mod']

theorem product_apply (oa ob : FVec Ideal S16384x1024 .bf16) (w : FVec Ideal S1x2048x2048 .f32) (t : Fin 16384) (d : Fin 2048) :
    product (heads oa ob) w (ix3 (seqOf t) (posOf t) d)
      = ∑ k : Fin 1024, oa (ix2 t k) * w (ix3 0 ⟨k.val, by omega⟩ d) + ∑ k : Fin 1024, ob (ix2 t k) * w (ix3 0 ⟨1024 + k.val, by omega⟩ d) := by
  have h : product (heads oa ob) w (ix3 (seqOf t) (posOf t) d)
      = ∑ k : Fin (1024 + 1024), heads oa ob (ix3 (seqOf t) (posOf t) (k : Fin 2048)) * w (ix3 0 (k : Fin 2048) d) := by
    unfold product
    generalize hw : shapeCast S2048x2048 w shapeCasts_S1x2048x2048_S2048x2048 = w'
    generalize heads oa ob = hd
    pointwise []
    subst hw
    exact Finset.sum_congr rfl fun k _ => congrArg (hd _ * ·) (ValueIdx.shapeCast_1ab_ab_apply _ _ _ _)
  rw [h, Fin.sum_univ_add]
  congr 1
  · refine Finset.sum_congr rfl fun k _ => ?_
    rw [heads_apply, dif_pos (show (Fin.castAdd 1024 k).val < 1024 from k.isLt)]
    rfl
  · refine Finset.sum_congr rfl fun k _ => ?_
    rw [heads_apply, dif_neg (show ¬ (Fin.natAdd 1024 k).val < 1024 from by simp)]
    refine congrArg₂ (· * ·) (congrArg (fun q => ob (ix2 t q)) (Fin.ext ?_)) rfl
    simp

theorem rows_apply (c : Dev nD) (t : Fin 16384) (d : Fin 2048) : rowsArr m c (ix3 (seqOf t) (posOf t) d)
    = rowsOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) t d := by
  unfold rowsArr rowsOf mixed
  rw [← product_apply]
  generalize product _ _ = p
  pointwise [after]

theorem shifted_apply (x : FVec Ideal S8x2048x2048 .f32) (g : FVec Ideal S1x2048 .f32) (md : FVec Ideal S8x6x2048 .f32)
    (y : Fin 16384 → Fin 2048 → EReal) (t : Fin 16384) (hy : ∀ k, x (ix3 (seqOf t) (posOf t) k) = y t k) (d : Fin 2048) :
    shifted (scaled x g) md (ix3 (seqOf t) (posOf t) d) = modulated y (fun d => g (ix2 0 d)) md t d := by
  pointwise [shifted, scaled, modulated, invRms, hy]

theorem normed_apply (c : Dev nD) (t : Fin 16384) (d : Fin 2048) : normedArr m c (ix2 t d)
    = normedOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) t d :=
  (merge_apply _ _ t d).trans (shifted_apply _ _ _ _ t (rows_apply m c t) d)

theorem out0_eq (c : Dev nD) (t : Fin 16384) (d : Fin 2048) :
    (shapeCast S16384x2048 (rowsArr m c) shapeCasts_S8x2048x2048_S16384x2048 : FVec Ideal S16384x2048 .f32) (ix2 t d)
      = rowsOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) t d :=
  (merge_apply _ _ t d).trans (rows_apply m c t d)

theorem out2_eq (c : Dev nD) (e : Fin 64) (t : Fin 16384) : (res_out2 m c : Vec Ideal S64x16384 .f32) (ix2 e t)
    = logitsOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) e t := by
  have h : (res_out2 m c : Vec Ideal S64x16384 .f32) = transpose S64x16384 [1, 0] (Host.dotGeneral dot_S16384x2048_S2048x64_S16384x64_1_0_0_1_n_n none
      (normedArr m c) (shapeCast S2048x64 (m ((c.tc : Thread nD τ).loc main_arg6) : FVec Ideal S1x2048x64 .f32) shapeCasts_S1x2048x64_S2048x64) : FVec Ideal S16384x64 .f32)
      transposes_S16384x64_S64x16384_1_0 := rfl
  rw [h]
  unfold logitsOf logit
  simp only [← normed_apply]
  generalize normedArr m c = a
  generalize hw : shapeCast S2048x64 (m ((c.tc : Thread nD τ).loc main_arg6) : FVec Ideal S1x2048x64 .f32) shapeCasts_S1x2048x64_S2048x64 = w'
  pointwise []
  subst hw
  refine Finset.sum_congr (M := EReal) rfl fun k _ => ?_
  exact (congrArg (a _ * ·) (ValueIdx.shapeCast_1ab_ab_apply _ _ _ _)).trans (mul_comm _ _)

end Cert.Output.Ref

end
-- ==== Proof.Output.Claims.lean ====
/- The claims about the output projection: the frames of kernel and reference, and the equality of their three results over
    the extended reals. -/
module

public import proofs.«01_k».proof.Defs
public import proofs.«01_k».proof.Proof.Gen.Kernel3.Frame
public import proofs.«01_k».proof.Proof.Output.Reference
public import Idealize.ShloMosaic.Lib.Quiescent

@[expose] public section

set_option maxRecDepth 16384

noncomputable section

namespace Cert.Output

open Idealize.ShloMosaic Idealize.ShloMosaic.TcCoe Idealize.SL.Sem

theorem frame_bits : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, _, _, run_kernel m ρ, ?_⟩
  refine (θ_run _ _ _).mono (fun _ h c => ⟨(h c).1.trans ?_, (h c).2.1.trans ?_, (h c).2.2.1.trans ?_, (h c).2.2.2⟩)
    (Cert.Reference3Ideal.Value.run (F := Ideal) m' ρ')
  · refine funext fun (i : Cert.Kernel3Ideal.S16384x2048.Idx) => ?_
    rw [ValueIdx.eq_ix2 i]
    refine (Ref.out0_eq m' c (i 0) (i 1)).trans ?_
    rw [(hagree c).1, (hagree c).2.1, (hagree c).2.2.1, (hagree c).2.2.2.1, (hagree c).2.2.2.2.1]
  · refine funext fun (i : Cert.Kernel3Ideal.S16384x2048.Idx) => ?_
    rw [ValueIdx.eq_ix2 i]
    refine (Ref.normed_apply m' c (i 0) (i 1)).trans ?_
    rw [(hagree c).1, (hagree c).2.1, (hagree c).2.2.1, (hagree c).2.2.2.1, (hagree c).2.2.2.2.1, (hagree c).2.2.2.2.2.1]
  · refine funext fun (i : Cert.Kernel3Ideal.S64x16384.Idx) => ?_
    rw [ValueIdx.eq_ix2 i]
    refine (Ref.out2_eq m' c (i 0) (i 1)).trans ?_
    rw [(hagree c).1, (hagree c).2.1, (hagree c).2.2.1, (hagree c).2.2.2.1, (hagree c).2.2.2.2.1, (hagree c).2.2.2.2.2.1, (hagree c).2.2.2.2.2.2]

end Cert.Output

end
-- ==== Proof.Experts.Launch.lean ====
/- The launch of the routed experts: the memory the grid starts from, the tables the host has computed, and what the kernel
   is handed beside its windows. -/
module

public import proofs.«01_k».proof.Proof.Gen.KernelIdeal.Skeleton
public import proofs.«01_k».proof.Proof.Gen.KernelIdeal.Launch
public import Idealize.ShloMosaic.Lib.Batch
public import Idealize.ShloMosaic.Lib.Pipeline.FrameBody
public import Idealize.ShloMosaic.Lib.WordCmp
public import Idealize.ShloMosaic.Lib.Tactic
public import Idealize.ShloMosaic.Lib.Pipeline.Kit
public import Idealize.ShloMosaic.Lib.Claim

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host's operations before the launch, stretch by stretch. -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩

theorem stretches_fresh : (stretches (F := F)).Forall fun ops => ops.Forall fun op => op.fresh = ∅ := by
  simp only [stretches, List.forall_cons, List.Forall, and_true]
  repeat' constructor

/-- A core's buffers when the grid starts: after the host's operations. -/
def V (c : Dev nD) (b : Ref sig .tc) : Buf (Elt F) ((c : Thread nD τ).loc b) :=
  StableHlo.after stretches.flatten (fun b => m (c, b)) b

set_option backward.isDefEq.respectTransparency.types false in
/-- The host's operations run to those buffers. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main stretches stretches_sub stretches_fresh (fun c => main_chain c)

/-! ## The tables -/

/-- The tables' contents when the grid starts. -/
def tbl : pre0.Contents (Elt F) := fun j => V m (0 : Dev nD) (pre0.ref j)

/-- Every device holds them: there is one. -/
theorem V_pre (c : Dev nD) (j : Fin 7) : V m c (pre0.ref j) = tbl m j := by
  obtain rfl : c = 0 := Subsingleton.elim _ _; rfl

/-- Each block of rows the tables name lies inside the array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table as the kernel is handed it: block of rows, expert, first block of its expert, slot, next expert, whether there is
    one, number of blocks in use. -/
abbrev tbBlk : Memref sig .tc .smem S320 .i32 := Memref.whole main_v14
abbrev tbEid : Memref sig .tc .smem S320 .i32 := Memref.whole main_v25
abbrev tbFirst : Memref sig .tc .smem S320 .i32 := Memref.whole main_v35
abbrev tbSlot : Memref sig .tc .smem S320 .i32 := Memref.whole main_v39
abbrev tbNxt : Memref sig .tc .smem S320 .i32 := Memref.whole main_v59
abbrev tbMore : Memref sig .tc .smem S320 .i32 := Memref.whole main_v50
abbrev tbNvb : Memref sig .tc .smem S1 .i32 := Memref.whole main_v60

/-- A memref's buffer on a core, and that buffer held whole, for reading only or outright. -/
abbrev BufOf (c : Dev nD) {sp : Space} {S : Shape} {e : EltTy} (M : Memref sig .tc sp S e) : Type := Buf (Elt F) (M.view.loc (c : Thread nD τ))
abbrev readable (c : Dev nD) {sp : Space} {S : Shape} {e : EltTy} (M : Memref sig .tc sp S e) (f : BufOf (F := F) c M) : sProp 𝕄 :=
  M.view.loc (c : Thread nD τ) ↦{fullShare.right} f
abbrev whole (c : Dev nD) {sp : Space} {S : Shape} {e : EltTy} (M : Memref sig .tc sp S e) (f : BufOf (F := F) c M) : sProp 𝕄 :=
  M.view.loc (c : Thread nD τ) ↦{fullShare} f
/-- A window of a buffer held by its own elements. -/
abbrev window (c : Dev nD) {sp : Space} {S : Shape} {e : EltTy} (M : Memref sig .tc sp S e) (f : BufOf (F := F) c M) : sProp 𝕄 :=
  M.view.loc (c : Thread nD τ) ↦[M.view.set]{fullShare} f

/-- The tables one by one. -/
abbrev tables (c : Dev nD) (T : pre0.Contents (Elt F)) : sProp 𝕄 :=
  iprop(readable c tbBlk (T 0) ∗ readable c tbEid (T 1) ∗ readable c tbFirst (T 2) ∗ readable c tbSlot (T 3) ∗ readable c tbNxt (T 4)
    ∗ readable c tbMore (T 5) ∗ readable c tbNvb (T 6))

theorem PhiT_eq (c : Dev nD) (T : pre0.Contents (Elt F)) : (Pipeline.ΦT pre0 T c : sProp 𝕄) = tables c T := by
  unfold Pipeline.ΦT Pipeline.prefHeld
  rw [bigSep_univ_eq_bigSepL [(0 : Fin 7), 1, 2, 3, 4, 5, 6] (by decide) (by decide)]
  rfl

/-! ## What else the kernel is handed -/

/-- The three weight arrays, in the memory they lie in; the two slots of weights and the weights in use, on the core. -/
abbrev hbGate : Memref sig .tc .hbm S64x2048x512 .f32 := Memref.whole main_arg2
abbrev hbUp : Memref sig .tc .hbm S64x2048x512 .f32 := Memref.whole main_arg3
abbrev hbDown : Memref sig .tc .hbm S64x512x2048 .f32 := Memref.whole main_arg4
abbrev slGate : Memref sig .tc .vmem S2x2048x512 .f32 := Memref.whole cc0_scratch0
abbrev slUp : Memref sig .tc .vmem S2x2048x512 .f32 := Memref.whole cc0_scratch1
abbrev slDown : Memref sig .tc .vmem S2x512x2048 .f32 := Memref.whole cc0_scratch2
abbrev inGate : Memref sig .tc .vmem S2048x512 .bf16 := Memref.whole cc0_scratch3
abbrev inUp : Memref sig .tc .vmem S2048x512 .bf16 := Memref.whole cc0_scratch4
abbrev inDown : Memref sig .tc .vmem S512x2048 .bf16 := Memref.whole cc0_scratch5

/-- The kernel's own semaphores, one a slot. -/
abbrev osem : Fin 2 → SemLoc sig := fun j => (![SemLoc.dma 4, SemLoc.dma 5] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl

/-- The arrays the kernel reads itself. -/
def inHbm : Finset (Ref sig .tc) := {main_arg2, main_arg3, main_arg4}
theorem inHbm_sub : inHbm ⊆ Pipeline.restRefsP sig pre0 spec0 := by
  intro b hb
  simp only [inHbm, Finset.mem_insert, Finset.mem_singleton] at hb
  rcases hb with rfl | rfl | rfl <;> decide

theorem hbm_eq (c : Dev nD) : (bigSep inHbm (fun b => ((c : Thread nD τ).loc b) ↦{fullShare} V m c b) : sProp 𝕄)
    = iprop(whole c hbGate (V m c main_arg2) ∗ whole c hbUp (V m c main_arg3) ∗ whole c hbDown (V m c main_arg4)) := by
  rw [BI.bigSep_eq_bigSepL_of_eq [main_arg2, main_arg3, main_arg4] (by decide) (by decide)]; rfl

/-- All the kernel is handed when the grid starts, one by one. -/
theorem PhiD_eq (c : Dev nD) : (Pipeline.ΦD osem spec0 inHbm (V m) c : sProp 𝕄)
    = iprop(((∃ f, whole c slGate f) ∗ (∃ f, whole c slUp f) ∗ (∃ f, whole c slDown f) ∗ (∃ f, whole c inGate f) ∗ (∃ f, whole c inUp f) ∗ (∃ f, whole c inDown f))
      ∗ (∃ r, prngReg c r) ∗ (semVal ((c : Thread nD τ), SemLoc.dma 4) 0 ∗ semVal ((c : Thread nD τ), SemLoc.dma 5) 0)
      ∗ (whole c hbGate (V m c main_arg2) ∗ whole c hbUp (V m c main_arg3) ∗ whole c hbDown (V m c main_arg4))) := by
  rw [Pipeline.ΦD_eq, scopedRest0_eq, ownSems_eq, hbm_eq]

/-! ## The windows -/

/-- A window's block at a point, read off its array as the grid finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_in (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev stX (hO : Ok m) (t : Fin (cfgM m hO).N) : Memref sig .tc .vmem S512x2048 .bf16 := spec0_0.stage ((cfgM m hO).slots t 0)
abbrev hstX (hO : Ok m) (t : Fin (cfgM m hO).N) : (stX m hO t).IsWhole := hstage0_0 (((cfgM m hO).slots t 0).cast nbuf0_0)
abbrev stY (hO : Ok m) (t : Fin (cfgM m hO).N) : Memref sig .tc .vmem S512x2048 .bf16 := spec0_1.stage ((cfgM m hO).slots t 1)
abbrev hstY (hO : Ok m) (t : Fin (cfgM m hO).N) : (stY m hO t).IsWhole := hstage0_1 (((cfgM m hO).slots t 1).cast nbuf0_1)

end Cert.Experts

end
-- ==== Proof.Experts.State.lean ====
/- The state the routed experts' kernel keeps between grid points: two slots of weights, each idle or with an expert's three
   matrices in flight, and the weights in use. -/
module

public import proofs.«01_k».proof.Proof.Experts.Launch

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Windows -/

theorem inb_slot (s : ℕ) (hs : s < 2) : ∀ a, (![s, 0, 0] : Fin 3 → ℕ) a + S1x2048x512.size a ≤ S2x2048x512.size a := by
  intro a; fin_cases a
  · show s + 1 ≤ 2; omega
  · exact Nat.le_of_eq (Nat.zero_add _)
  · exact Nat.le_of_eq (Nat.zero_add _)
theorem inb_slotDown (s : ℕ) (hs : s < 2) : ∀ a, (![s, 0, 0] : Fin 3 → ℕ) a + S1x512x2048.size a ≤ S2x512x2048.size a := by
  intro a; fin_cases a
  · show s + 1 ≤ 2; omega
  · exact Nat.le_of_eq (Nat.zero_add _)
  · exact Nat.le_of_eq (Nat.zero_add _)
theorem inb_of (e : ℕ) (he : e < 64) : ∀ a, (![e, 0, 0] : Fin 3 → ℕ) a + S1x2048x512.size a ≤ S64x2048x512.size a := by
  intro a; fin_cases a
  · show e + 1 ≤ 64; omega
  · exact Nat.le_of_eq (Nat.zero_add _)
  · exact Nat.le_of_eq (Nat.zero_add _)
theorem inb_ofDown (e : ℕ) (he : e < 64) : ∀ a, (![e, 0, 0] : Fin 3 → ℕ) a + S1x512x2048.size a ≤ S64x512x2048.size a := by
  intro a; fin_cases a
  · show e + 1 ≤ 64; omega
  · exact Nat.le_of_eq (Nat.zero_add _)
  · exact Nat.le_of_eq (Nat.zero_add _)

/-- Slot `s` of the gate, up and down weights on the core. -/
abbrev gateSlot (s : ℕ) (hs : s < 2) : Memref sig .tc .vmem S2048x512 .f32 :=
  (slGate.slice (Rect.unit (s := S2x2048x512) ![s, 0, 0] S1x2048x512.size (inb_slot s hs)) (fun _ => rfl)).squeeze S2048x512 squeezes_S1x2048x512_S2048x512
abbrev upSlot (s : ℕ) (hs : s < 2) : Memref sig .tc .vmem S2048x512 .f32 :=
  (slUp.slice (Rect.unit (s := S2x2048x512) ![s, 0, 0] S1x2048x512.size (inb_slot s hs)) (fun _ => rfl)).squeeze S2048x512 squeezes_S1x2048x512_S2048x512
abbrev downSlot (s : ℕ) (hs : s < 2) : Memref sig .tc .vmem S512x2048 .f32 :=
  (slDown.slice (Rect.unit (s := S2x512x2048) ![s, 0, 0] S1x512x2048.size (inb_slotDown s hs)) (fun _ => rfl)).squeeze S512x2048 squeezes_S1x512x2048_S512x2048

/-- Expert `e`'s gate, up and down weights where they lie. -/
abbrev gateOf (e : ℕ) (he : e < 64) : Memref sig .tc .hbm S2048x512 .f32 :=
  (hbGate.slice (Rect.unit (s := S64x2048x512) ![e, 0, 0] S1x2048x512.size (inb_of e he)) (fun _ => rfl)).squeeze S2048x512 squeezes_S1x2048x512_S2048x512
abbrev upOf (e : ℕ) (he : e < 64) : Memref sig .tc .hbm S2048x512 .f32 :=
  (hbUp.slice (Rect.unit (s := S64x2048x512) ![e, 0, 0] S1x2048x512.size (inb_of e he)) (fun _ => rfl)).squeeze S2048x512 squeezes_S1x2048x512_S2048x512
abbrev downOf (e : ℕ) (he : e < 64) : Memref sig .tc .hbm S512x2048 .f32 :=
  (hbDown.slice (Rect.unit (s := S64x512x2048) ![e, 0, 0] S1x512x2048.size (inb_ofDown e he)) (fun _ => rfl)).squeeze S512x2048 squeezes_S1x512x2048_S512x2048

/-- The share of the three weight arrays a slot's copies read: half each. -/
abbrev shareOf : ℕ → PosShare TreeShare
  | 0 => fullShare.left
  | _ => fullShare.right

/-- A window held at a share. -/
abbrev part (c : Dev nD) {sp : Space} {S : Shape} {e : EltTy} (q : PosShare TreeShare) (M : Memref sig .tc sp S e) (f : BufOf (F := F) c M) : sProp 𝕄 :=
  M.view.loc (c : Thread nD τ) ↦[M.view.set]{q} f

/-- A slot's window once expert `e`'s matrix has landed in it. -/
abbrev landed (c : Dev nD) {S : Shape} (src : Memref sig .tc .hbm S .f32) (dst : Memref sig .tc .vmem S .f32) (f : BufOf (F := F) c src) : BufOf (F := F) c dst :=
  dst.view.writes (Elt F) dst.view.junk [⟨Rect.whole S, ReadAs.same.apply (src.view.read (Elt F) f)⟩]

variable (c : Dev nD) (Wg : BufOf (F := F) c hbGate) (Wu : BufOf (F := F) c hbUp) (Wd : BufOf (F := F) c hbDown)

/-- What the three copies of expert `e` into slot `s` hand back. -/
def deliv (s : ℕ) (hs : s < 2) (e : ℕ) (he : e < 64) : Fin 3 → sProp 𝕄
  | 0 => iprop(window c (gateSlot s hs) (landed c (gateOf e he) (gateSlot s hs) Wg) ∗ part c (shareOf s) (gateOf e he) Wg)
  | 1 => iprop(window c (upSlot s hs) (landed c (upOf e he) (upSlot s hs) Wu) ∗ part c (shareOf s) (upOf e he) Wu)
  | 2 => iprop(window c (downSlot s hs) (landed c (downOf e he) (downSlot s hs) Wd) ∗ part c (shareOf s) (downOf e he) Wd)

instance (s : ℕ) (hs : s < 2) (e : ℕ) (he : e < 64) (t : Fin 3) : BI.Storable (upEmb : UEmb _ 𝕄) (deliv c Wg Wu Wd s hs e he t) := by
  fin_cases t <;> (unfold deliv; infer_instance)

/-- A slot's semaphore. -/
abbrev cell : ℕ → SemLoc sig
  | 0 => .dma 4
  | _ => .dma 5

/-- One copy's credit. -/
abbrev credit : ℕ := (gateSlot 0 (by decide)).view.amount (SemLoc.dma (sig := sig) 4)

/-- Slot `s` with `k` of expert `e`'s copies started and none waited for. -/
abbrev flying (s : ℕ) (hs : s < 2) (e : ℕ) (he : e < 64) (k : ℕ) : sProp 𝕄 :=
  Transfers.Batch (countersEmb (U := Pipeline.UD sig nD τ)) (c : Thread nD τ) (cell s) () credit (deliv c Wg Wu Wd s hs e he) k 0

end Cert.Experts

end
-- ==== Proof.Experts.Values.lean ====
/- What the routed experts' kernel computes of a block of rows, and what its copies leave in a slot. -/
module

public import proofs.«01_k».proof.Proof.Experts.State
public import Idealize.ShloMosaic.Lib.VecWindow
public import Idealize.ShloMosaic.Lib.WholeRead

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first and the last 1024 rows of a matrix. -/
def top (g : Vec F S2048x512 .bf16) : Vec F S1024x512 .bf16 :=
  fun j => g ((Rect.unit (s := S2048x512) ![0, 0] S1024x512.size inb_S2048x512_S1024x512_0_0).toLoadRect.idx j)
def bot (g : Vec F S2048x512 .bf16) : Vec F S1024x512 .bf16 :=
  fun j => g ((Rect.unit (s := S2048x512) ![1024, 0] S1024x512.size inb_S2048x512_S1024x512_1024_0).toLoadRect.idx j)

/-- Expert `e`'s three matrices. -/
def gateW (e : ℕ) (he : e < 64) (W : S64x2048x512.Idx → Elt F .f32) : Vec F S1x2048x512 .f32 :=
  fun j => W ((Rect.unit (s := S64x2048x512) ![e, 0, 0] S1x2048x512.size (inb_of e he)).toLoadRect.idx j)
def downW (e : ℕ) (he : e < 64) (W : S64x512x2048.Idx → Elt F .f32) : Vec F S1x512x2048 .f32 :=
  fun j => W ((Rect.unit (s := S64x512x2048) ![e, 0, 0] S1x512x2048.size (inb_ofDown e he)).toLoadRect.idx j)

/-- A block's result at the first block of its expert, and at the later ones. -/
def outFirst (x : Vec F S512x2048 .bf16) (g u : Vec F S2048x512 .bf16) (d : Vec F S512x2048 .bf16) : Vec F S512x2048 .bf16 :=
  k0_pay1 (k0_pay7 x) (k0_pay8 x) (k0_pay9 x (top g) (bot g)) (top u) (bot u) d
def outLater (x : Vec F S512x2048 .bf16) (g u : Vec F S2048x512 .bf16) (d : Vec F S512x2048 .bf16) : Vec F S512x2048 .bf16 :=
  k0_pay2 x (top g) (bot g) (top u) (bot u) d

/-! ## Reads -/

/-- A matrix that has landed in slot `s` reads back as the expert's. -/
theorem landed_wide (s : ℕ) (hs : s < 2) (e : ℕ) (he : e < 64) (src : Memref sig .tc .hbm S64x2048x512 .f32) (dst : Memref sig .tc .vmem S2x2048x512 .f32)
    (W : src.view.ty.Contents (Elt F)) :
    dst.view.readAt (Elt F) (Rect.unit (s := S2x2048x512) ![s, 0, 0] S1x2048x512.size (inb_slot s hs)).toLoadRect
      (((dst.slice (Rect.unit (s := S2x2048x512) ![s, 0, 0] S1x2048x512.size (inb_slot s hs)) (fun _ => rfl)).squeeze S2048x512 squeezes_S1x2048x512_S2048x512).view.rep
        (((src.slice (Rect.unit (s := S64x2048x512) ![e, 0, 0] S1x2048x512.size (inb_of e he)) (fun _ => rfl)).squeeze S2048x512 squeezes_S1x2048x512_S2048x512).view.read (Elt F) W))
      = src.view.readAt (Elt F) (Rect.unit (s := S64x2048x512) ![e, 0, 0] S1x2048x512.size (inb_of e he)).toLoadRect W := by
  funext j
  have h := congrFun (View.read_rep ((dst.slice (Rect.unit (s := S2x2048x512) ![s, 0, 0] S1x2048x512.size (inb_slot s hs)) (fun _ => rfl)).squeeze S2048x512 squeezes_S1x2048x512_S2048x512).view
    (((src.slice (Rect.unit (s := S64x2048x512) ![e, 0, 0] S1x2048x512.size (inb_of e he)) (fun _ => rfl)).squeeze S2048x512 squeezes_S1x2048x512_S2048x512).view.read (Elt F) W))
    ((Shape.reshapeEquiv (s := S1x2048x512) (s' := S2048x512) (by decide)).symm j)
  have e1 : (Shape.reshapeEquiv (s := S1x2048x512) (s' := S2048x512) (by decide)) ((Shape.reshapeEquiv (s := S1x2048x512) (s' := S2048x512) (by decide)).symm j) = j := Equiv.apply_symm_apply _ _
  generalize (Shape.reshapeEquiv (s := S1x2048x512) (s' := S2048x512) (by decide)).symm j = y at h e1
  subst e1
  exact h

theorem landed_tall (s : ℕ) (hs : s < 2) (e : ℕ) (he : e < 64) (src : Memref sig .tc .hbm S64x512x2048 .f32) (dst : Memref sig .tc .vmem S2x512x2048 .f32)
    (W : src.view.ty.Contents (Elt F)) :
    dst.view.readAt (Elt F) (Rect.unit (s := S2x512x2048) ![s, 0, 0] S1x512x2048.size (inb_slotDown s hs)).toLoadRect
      (((dst.slice (Rect.unit (s := S2x512x2048) ![s, 0, 0] S1x512x2048.size (inb_slotDown s hs)) (fun _ => rfl)).squeeze S512x2048 squeezes_S1x512x2048_S512x2048).view.rep
        (((src.slice (Rect.unit (s := S64x512x2048) ![e, 0, 0] S1x512x2048.size (inb_ofDown e he)) (fun _ => rfl)).squeeze S512x2048 squeezes_S1x512x2048_S512x2048).view.read (Elt F) W))
      = src.view.readAt (Elt F) (Rect.unit (s := S64x512x2048) ![e, 0, 0] S1x512x2048.size (inb_ofDown e he)).toLoadRect W := by
  funext j
  have h := congrFun (View.read_rep ((dst.slice (Rect.unit (s := S2x512x2048) ![s, 0, 0] S1x512x2048.size (inb_slotDown s hs)) (fun _ => rfl)).squeeze S512x2048 squeezes_S1x512x2048_S512x2048).view
    (((src.slice (Rect.unit (s := S64x512x2048) ![e, 0, 0] S1x512x2048.size (inb_ofDown e he)) (fun _ => rfl)).squeeze S512x2048 squeezes_S1x512x2048_S512x2048).view.read (Elt F) W))
    ((Shape.reshapeEquiv (s := S1x512x2048) (s' := S512x2048) (by decide)).symm j)
  have e1 : (Shape.reshapeEquiv (s := S1x512x2048) (s' := S512x2048) (by decide)) ((Shape.reshapeEquiv (s := S1x512x2048) (s' := S512x2048) (by decide)).symm j) = j := Equiv.apply_symm_apply _ _
  generalize (Shape.reshapeEquiv (s := S1x512x2048) (s' := S512x2048) (by decide)).symm j = y at h e1
  subst e1
  exact h

/-- What slot `s` reads as after its copies. -/
abbrev slotGate (c : Dev nD) (s : ℕ) (hs : s < 2) (e : ℕ) (he : e < 64) (W : BufOf (F := F) c hbGate) : Vec F S1x2048x512 .f32 :=
  slGate.view.readAt (Elt F) (Rect.unit (s := S2x2048x512) ![s, 0, 0] S1x2048x512.size (inb_slot s hs)).toLoadRect (landed c (gateOf e he) (gateSlot s hs) W)
abbrev slotUp (c : Dev nD) (s : ℕ) (hs : s < 2) (e : ℕ) (he : e < 64) (W : BufOf (F := F) c hbUp) : Vec F S1x2048x512 .f32 :=
  slUp.view.readAt (Elt F) (Rect.unit (s := S2x2048x512) ![s, 0, 0] S1x2048x512.size (inb_slot s hs)).toLoadRect (landed c (upOf e he) (upSlot s hs) W)
abbrev slotDown (c : Dev nD) (s : ℕ) (hs : s < 2) (e : ℕ) (he : e < 64) (W : BufOf (F := F) c hbDown) : Vec F S1x512x2048 .f32 :=
  slDown.view.readAt (Elt F) (Rect.unit (s := S2x512x2048) ![s, 0, 0] S1x512x2048.size (inb_slotDown s hs)).toLoadRect (landed c (downOf e he) (downSlot s hs) W)

variable (c : Dev nD) (s : ℕ) (hs : s < 2) (e : ℕ) (he : e < 64)

theorem slotGate_eq (W : BufOf (F := F) c hbGate) : slotGate c s hs e he W = gateW e he W := landed_wide s hs e he hbGate slGate W
theorem slotUp_eq (W : BufOf (F := F) c hbUp) : slotUp c s hs e he W = gateW e he W := landed_wide s hs e he hbUp slUp W
theorem slotDown_eq (W : BufOf (F := F) c hbDown) : slotDown c s hs e he W = downW e he W := landed_tall s hs e he hbDown slDown W

/-- A buffer stored whole reads as what was stored, wherever it is read. -/
theorem readCov_stored {sp : Space} {S : Shape} {ε : EltTy} (v : View sig .tc sp S ε) {off : Fin S.rank → ℕ} (inb : ∀ a, off a + S.size a ≤ S.size a)
    (w : S.Idx → Elt F ε) (B : LoadRect S) : v.readCov [⟨Rect.unit off S.size inb, w⟩] B = fun j => w (B.idx j) := by
  funext j
  unfold View.readCov
  rw [View.readAt_apply, View.read_writes_full]

/-- The rows as the kernel loads them. -/
theorem read_rows {arg : Memref sig .tc .vmem S512x2048 .bf16} (h : arg.IsWhole) (x : Vec F S512x2048 .bf16) :
    arg.view.readAt (Elt F) (Rect.unit (s := S512x2048) ![0, 0] S512x2048.size inb_S512x2048_S512x2048_0_0).toLoadRect (h.unread x) = x := by
  funext j
  refine (h.readAt_unread x _ j).trans (congrArg x ?_)
  funext a
  apply Fin.ext
  show (![0, 0] : Fin 2 → ℕ) a + 1 * (j a).val = (j a).val
  fin_cases a <;> simp

/-- The first block's result, as the run spells it. -/
theorem outFirst_eq {arg8 : Memref sig .tc .vmem S512x2048 .bf16} (h8 : arg8.IsWhole) (x : Vec F S512x2048 .bf16)
    (Wg : BufOf (F := F) c hbGate) (Wu : BufOf (F := F) c hbUp) (Wd : BufOf (F := F) c hbDown) :
    k0_pay1 (k0_pay7 (arg8.view.readAt (Elt F) (Rect.unit (s := S512x2048) ![0, 0] S512x2048.size inb_S512x2048_S512x2048_0_0).toLoadRect (h8.unread x)))
      (k0_pay8 (arg8.view.readAt (Elt F) (Rect.unit (s := S512x2048) ![0, 0] S512x2048.size inb_S512x2048_S512x2048_0_0).toLoadRect (h8.unread x)))
      (k0_pay9 (arg8.view.readAt (Elt F) (Rect.unit (s := S512x2048) ![0, 0] S512x2048.size inb_S512x2048_S512x2048_0_0).toLoadRect (h8.unread x))
        (inGate.view.readCov [⟨Rect.unit (s := S2048x512) ![0, 0] S2048x512.size inb_S2048x512_S2048x512_0_0, k0_pay4 (slotGate c s hs e he Wg)⟩]
          (Rect.unit (s := S2048x512) ![0, 0] S1024x512.size inb_S2048x512_S1024x512_0_0).toLoadRect)
        (inGate.view.readCov [⟨Rect.unit (s := S2048x512) ![0, 0] S2048x512.size inb_S2048x512_S2048x512_0_0, k0_pay4 (slotGate c s hs e he Wg)⟩]
          (Rect.unit (s := S2048x512) ![1024, 0] S1024x512.size inb_S2048x512_S1024x512_1024_0).toLoadRect))
      (inUp.view.readCov [⟨Rect.unit (s := S2048x512) ![0, 0] S2048x512.size inb_S2048x512_S2048x512_0_0, k0_pay5 (slotUp c s hs e he Wu)⟩]
        (Rect.unit (s := S2048x512) ![0, 0] S1024x512.size inb_S2048x512_S1024x512_0_0).toLoadRect)
      (inUp.view.readCov [⟨Rect.unit (s := S2048x512) ![0, 0] S2048x512.size inb_S2048x512_S2048x512_0_0, k0_pay5 (slotUp c s hs e he Wu)⟩]
        (Rect.unit (s := S2048x512) ![1024, 0] S1024x512.size inb_S2048x512_S1024x512_1024_0).toLoadRect)
      (inDown.view.readCov [⟨Rect.unit (s := S512x2048) ![0, 0] S512x2048.size inb_S512x2048_S512x2048_0_0, k0_pay6 (slotDown c s hs e he Wd)⟩]
        (Rect.unit (s := S512x2048) ![0, 0] S512x2048.size inb_S512x2048_S512x2048_0_0).toLoadRect)
      = outFirst x (k0_pay4 (gateW e he Wg)) (k0_pay5 (gateW e he Wu)) (k0_pay6 (downW e he Wd)) := by
  rw [read_rows h8, slotGate_eq, slotUp_eq, slotDown_eq, View.readCov_full, readCov_stored, readCov_stored, readCov_stored, readCov_stored]
  rfl

theorem stored_gate (f : BufOf (F := F) c inGate) (W : BufOf (F := F) c hbGate) :
    inGate.view.read (Elt F) (inGate.view.writes (Elt F) f [⟨Rect.unit (s := S2048x512) ![0, 0] S2048x512.size inb_S2048x512_S2048x512_0_0, k0_pay4 (slotGate c s hs e he W)⟩])
      = k0_pay4 (gateW e he W) := by
  rw [View.read_writes_full, slotGate_eq]
theorem stored_up (f : BufOf (F := F) c inUp) (W : BufOf (F := F) c hbUp) :
    inUp.view.read (Elt F) (inUp.view.writes (Elt F) f [⟨Rect.unit (s := S2048x512) ![0, 0] S2048x512.size inb_S2048x512_S2048x512_0_0, k0_pay5 (slotUp c s hs e he W)⟩])
      = k0_pay5 (gateW e he W) := by
  rw [View.read_writes_full, slotUp_eq]
theorem stored_down (f : BufOf (F := F) c inDown) (W : BufOf (F := F) c hbDown) :
    inDown.view.read (Elt F) (inDown.view.writes (Elt F) f [⟨Rect.unit (s := S512x2048) ![0, 0] S512x2048.size inb_S512x2048_S512x2048_0_0, k0_pay6 (slotDown c s hs e he W)⟩])
      = k0_pay6 (downW e he W) := by
  rw [View.read_writes_full, slotDown_eq]

/-- A later block's result, as the run spells it. -/
theorem outLater_eq {arg8 : Memref sig .tc .vmem S512x2048 .bf16} (h8 : arg8.IsWhole) (x : Vec F S512x2048 .bf16) (g u : Vec F S2048x512 .bf16) (d : Vec F S512x2048 .bf16) :
    k0_pay2 (arg8.view.readAt (Elt F) (Rect.unit (s := S512x2048) ![0, 0] S512x2048.size inb_S512x2048_S512x2048_0_0).toLoadRect (h8.unread x))
      (inGate.view.readAt (Elt F) (Rect.unit (s := S2048x512) ![0, 0] S1024x512.size inb_S2048x512_S1024x512_0_0).toLoadRect ((Memref.isWhole_whole cc0_scratch3).unread g))
      (inGate.view.readAt (Elt F) (Rect.unit (s := S2048x512) ![1024, 0] S1024x512.size inb_S2048x512_S1024x512_1024_0).toLoadRect ((Memref.isWhole_whole cc0_scratch3).unread g))
      (inUp.view.readAt (Elt F) (Rect.unit (s := S2048x512) ![0, 0] S1024x512.size inb_S2048x512_S1024x512_0_0).toLoadRect ((Memref.isWhole_whole cc0_scratch4).unread u))
      (inUp.view.readAt (Elt F) (Rect.unit (s := S2048x512) ![1024, 0] S1024x512.size inb_S2048x512_S1024x512_1024_0).toLoadRect ((Memref.isWhole_whole cc0_scratch4).unread u))
      (inDown.view.readAt (Elt F) (Rect.unit (s := S512x2048) ![0, 0] S512x2048.size inb_S512x2048_S512x2048_0_0).toLoadRect ((Memref.isWhole_whole cc0_scratch5).unread d))
      = outLater x g u d := by
  have hg : ∀ B : LoadRect S2048x512, inGate.view.readAt (Elt F) B ((Memref.isWhole_whole cc0_scratch3).unread g) = fun j => g (B.idx j) :=
    fun B => funext fun j => (Memref.isWhole_whole cc0_scratch3).readAt_unread g B j
  have hu : ∀ B : LoadRect S2048x512, inUp.view.readAt (Elt F) B ((Memref.isWhole_whole cc0_scratch4).unread u) = fun j => u (B.idx j) :=
    fun B => funext fun j => (Memref.isWhole_whole cc0_scratch4).readAt_unread u B j
  rw [read_rows h8, read_rows (arg := inDown) (Memref.isWhole_whole cc0_scratch5), hg, hg, hu, hu]
  rfl

end Cert.Experts

end
-- ==== Proof.Experts.Expert.lean ====
/- What an expert makes of a row, and a block of rows as the kernel computes it: the sums over the rows' 2048 entries taken in two halves. -/
module

public import proofs.«01_k».proof.Proof.Experts.Values
public import Idealize.ShloMosaic.Lib.Pointwise
public import Idealize.ShloMosaic.Lib.ValueLayout

@[expose] public section

set_option maxRecDepth 16384

noncomputable section

namespace Cert.Experts

open Cert.KernelIdeal Cert.KernelIdeal.Gen
open Idealize.ShloMosaic Idealize.ShloMosaic.TcCoe Idealize.ShloMosaic.Tactic

/-- A row's products with the columns of a matrix. -/
def dotCol (x : Fin 2048 → EReal) (w : Fin 2048 → Fin 512 → EReal) (j : Fin 512) : EReal := ∑ k : Fin 2048, x k * w k j

/-- An expert's hidden row: `silu(x · gate) · (x · up)`, where `silu v = v / (1 + e⁻ᵛ)`. -/
def hidden (x : Fin 2048 → EReal) (wg wu : Fin 2048 → Fin 512 → EReal) (j : Fin 512) : EReal :=
  dotCol x wg j * Ideal.logistic (dotCol x wg j) * dotCol x wu j

/-- An expert's result for a row. -/
def expertRow (x : Fin 2048 → EReal) (wg wu : Fin 2048 → Fin 512 → EReal) (wd : Fin 512 → Fin 2048 → EReal) (q : Fin 2048) : EReal :=
  ∑ j : Fin 512, hidden x wg wu j * wd j q

theorem top_at (g : Vec Ideal S2048x512 .bf16) (k : Fin 1024) (j : Fin 512) : top g (ix2 k j) = g (ix2 (⟨k.val, by omega⟩ : Fin 2048) j) := by
  refine congrArg g (funext fun (a : Fin 2) => Fin.ext ?_)
  match a with
  | 0 => show 0 + 1 * k.val = k.val; omega
  | 1 => show 0 + 1 * j.val = j.val; omega

theorem bot_at (g : Vec Ideal S2048x512 .bf16) (k : Fin 1024) (j : Fin 512) : bot g (ix2 k j) = g (ix2 (⟨1024 + k.val, by omega⟩ : Fin 2048) j) := by
  refine congrArg g (funext fun (a : Fin 2) => Fin.ext ?_)
  match a with
  | 0 => show 1024 + 1 * k.val = 1024 + k.val; omega
  | 1 => show 0 + 1 * j.val = j.val; omega

/-- The two halves of a product add up to the whole. -/
theorem halves (x : Vec Ideal S512x2048 .bf16) (g : Vec Ideal S2048x512 .bf16) (r : Fin 512) (j : Fin 512) :
    (∑ k : Fin 1024, x (ix2 r (⟨k.val, by omega⟩ : Fin 2048)) * g (ix2 (⟨k.val, by omega⟩ : Fin 2048) j))
      + (∑ k : Fin 1024, x (ix2 r (⟨1024 + k.val, by omega⟩ : Fin 2048)) * g (ix2 (⟨1024 + k.val, by omega⟩ : Fin 2048) j))
      = (dotCol (fun k => x (ix2 r k)) (fun k j => g (ix2 k j)) j : EReal) :=
  (Fin.sum_univ_two_halves (M := EReal) 1024 1024 rfl fun k : Fin 2048 => x (ix2 r k) * g (ix2 k j)).symm

theorem outLater_at (x : Vec Ideal S512x2048 .bf16) (g u : Vec Ideal S2048x512 .bf16) (d : Vec Ideal S512x2048 .bf16) (r : Fin 512) (q : Fin 2048) :
    (outLater x g u d : Vec Ideal S512x2048 .bf16) (ix2 r q)
      = expertRow (fun k => x (ix2 r k)) (fun k j => g (ix2 k j)) (fun k j => u (ix2 k j)) (fun j q => d (ix2 j q)) q := by
  unfold outLater expertRow hidden
  pointwise [k0_pay2]
  simp only [top_at, bot_at]
  exact Finset.sum_congr (M := EReal) rfl fun j _ => congrArg (· * d (ix2 j q)) (by rw [← halves x g r j, ← halves x u r j])

theorem outFirst_at (x : Vec Ideal S512x2048 .bf16) (g u : Vec Ideal S2048x512 .bf16) (d : Vec Ideal S512x2048 .bf16) (r : Fin 512) (q : Fin 2048) :
    (outFirst x g u d : Vec Ideal S512x2048 .bf16) (ix2 r q)
      = expertRow (fun k => x (ix2 r k)) (fun k j => g (ix2 k j)) (fun k j => u (ix2 k j)) (fun j q => d (ix2 j q)) q := by
  unfold outFirst expertRow hidden
  pointwise [k0_pay1, k0_pay7, k0_pay8, k0_pay9]
  simp only [top_at, bot_at]
  exact Finset.sum_congr (M := EReal) rfl fun j _ => congrArg (· * d (ix2 j q)) (by rw [← halves x g r j, ← halves x u r j])

/-! ## The weights -/

theorem gateW_at (e : Fin 64) (W : S64x2048x512.Idx → Elt Ideal .f32) (k : Fin 2048) (j : Fin 512) :
    gateW (F := Ideal) e.val e.isLt W (ix3 0 k j) = W (ix3 e k j) := by
  refine congrArg W (funext fun (a : Fin 3) => Fin.ext ?_)
  match a with
  | 0 => show e.val + 1 * 0 = e.val; omega
  | 1 => show 0 + 1 * k.val = k.val; omega
  | 2 => show 0 + 1 * j.val = j.val; omega

theorem downW_at (e : Fin 64) (W : S64x512x2048.Idx → Elt Ideal .f32) (j : Fin 512) (q : Fin 2048) :
    downW (F := Ideal) e.val e.isLt W (ix3 0 j q) = W (ix3 e j q) := by
  refine congrArg W (funext fun (a : Fin 3) => Fin.ext ?_)
  match a with
  | 0 => show e.val + 1 * 0 = e.val; omega
  | 1 => show 0 + 1 * j.val = j.val; omega
  | 2 => show 0 + 1 * q.val = q.val; omega

theorem pay4_at (w : Vec Ideal S1x2048x512 .f32) (k : Fin 2048) (j : Fin 512) : (k0_pay4 w : Vec Ideal S2048x512 .bf16) (ix2 k j) = w (ix3 0 k j) := by
  unfold k0_pay4
  exact (shapeCast_apply _ _ (ix2 k j) (ix2 k j) rfl).trans (ValueIdx.shapeCast_1ab_ab_apply w _ k j)

theorem pay5_at (w : Vec Ideal S1x2048x512 .f32) (k : Fin 2048) (j : Fin 512) : (k0_pay5 w : Vec Ideal S2048x512 .bf16) (ix2 k j) = w (ix3 0 k j) := by
  unfold k0_pay5
  exact (shapeCast_apply _ _ (ix2 k j) (ix2 k j) rfl).trans (ValueIdx.shapeCast_1ab_ab_apply w _ k j)

theorem pay6_at (w : Vec Ideal S1x512x2048 .f32) (j : Fin 512) (q : Fin 2048) : (k0_pay6 w : Vec Ideal S512x2048 .bf16) (ix2 j q) = w (ix3 0 j q) := by
  unfold k0_pay6
  exact (shapeCast_apply _ _ (ix2 j q) (ix2 j q) rfl).trans (ValueIdx.shapeCast_1ab_ab_apply w _ j q)

end Cert.Experts

end
-- ==== Proof.Experts.Runs.lean ====
/- The routed experts' kernel run at one grid point: a block past the last in use, a later block of an expert, the first block
   of an expert. -/
module

public import proofs.«01_k».proof.Proof.Experts.Values
public import Idealize.ShloMosaic.Lib.ValueIdx

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel at grid point `i`, its block of rows staged in `arg8` and its block of the result in `arg12`. -/
abbrev body (i : grid0.Coords) (arg8 : Memref sig .tc .vmem S512x2048 .bf16) (h8 : arg8.IsWhole) (arg12 : Memref sig .tc .vmem S512x2048 .bf16) (h12 : arg12.IsWhole) :
    Prog (TpuEff nD τ sig (Elt F) Λ₀ .tc) PUnit :=
  cc0__expert_kernel i tbBlk (Memref.isWhole_whole _) tbEid (Memref.isWhole_whole _) tbFirst (Memref.isWhole_whole _) tbSlot (Memref.isWhole_whole _)
    tbNxt (Memref.isWhole_whole _) tbMore (Memref.isWhole_whole _) tbNvb (Memref.isWhole_whole _) arg8 h8 hbGate (Memref.isWhole_whole _)
    hbUp (Memref.isWhole_whole _) hbDown (Memref.isWhole_whole _) arg12 h12 slGate (Memref.isWhole_whole _) slUp (Memref.isWhole_whole _)
    slDown (Memref.isWhole_whole _) inGate (Memref.isWhole_whole _) inUp (Memref.isWhole_whole _) inDown (Memref.isWhole_whole _) cc0_scratch6

/-! ## Words of the tables -/

/-- A grid point's number. -/
def pt (i : grid0.Coords) : Fin 320 := ⟨(i 0).val, (i 0).isLt⟩

/-- A table's word at a grid point. -/
def word (M : Memref sig .tc .smem S320 .i32) (f : M.view.ty.Contents (Elt F)) (i : grid0.Coords) : BitVec 32 :=
  M.view.read (Elt F) f (ValueIdx.ix1 (pt i))

theorem off_eq (i : grid0.Coords) : k0_off1 i = ![(pt i).val] := by
  have h := (pt i).isLt
  funext a; fin_cases a
  show (BitVec.ofNat 32 (pt i).val).toNat = (pt i).val
  rw [BitVec.toNat_ofNat]; omega

/-- A load of one word gives that word. -/
theorem word_read (M : Memref sig .tc .smem S320 .i32) (f : M.view.ty.Contents (Elt F)) (i : grid0.Coords) {w : BitVec 32} (h : word M f i = w)
    {o : Fin 1 → ℕ} (ho : o = k0_off1 i) (inb : ∀ a, o a + S1.size a ≤ S320.size a) :
    M.view.readAt (Elt F) (Rect.unit (s := S320) o S1.size inb).toLoadRect f = fun _ => w := by
  subst h
  obtain rfl : o = ![(pt i).val] := ho.trans (off_eq i)
  funext j
  rw [View.readAt_apply]
  refine congrArg (M.view.read (Elt F) f) ?_
  funext a
  fin_cases a
  apply Fin.ext
  have hj : (j 0).val < 1 := (j 0).isLt
  show (pt i).val + 1 * (j 0).val = (pt i).val
  omega

/-! ## The runs -/

section Runs

variable (c : Dev nD) (i : grid0.Coords) (arg8 : Memref sig .tc .vmem S512x2048 .bf16) (h8 : arg8.IsWhole) (arg12 : Memref sig .tc .vmem S512x2048 .bf16)
  (h12 : arg12.IsWhole) (x : Vec F S512x2048 .bf16) (T : pre0.Contents (Elt F)) (k : BitVec 32)
  (hk : tbNvb.view.readAt (Elt F) (Rect.unit (s := S1) ![0] S1.size inb_S1_S1_0).toLoadRect (T 6) = fun _ => k)

include hk

set_option maxHeartbeats 1000000 in
/-- A later block of an expert: its weights are in use already. -/
theorem run_later (g u : Vec F S2048x512 .bf16) (d : Vec F S512x2048 .bf16) (hfirst : word tbFirst (T 2) i = 0#32)
    (hc1 : ¬ k0_cond1 i = 1#1) (hc5 : k0_cond5 i 0#32 k = 1#1) (hc6 : ¬ k0_cond6 i k = 1#1) (W : Waits sig Unit) (K : PUnit → sProp 𝕄) :
    iprop(owns (c : Thread nD τ) arg8 fullShare x ∗ (∃ y, owns (c : Thread nD τ) arg12 fullShare y) ∗ tables c T
        ∗ owns (c : Thread nD τ) inGate fullShare g ∗ owns (c : Thread nD τ) inUp fullShare u ∗ owns (c : Thread nD τ) inDown fullShare d
        ∗ owes (c : Thread nD τ) 0 W
        ∗ (iprop(owns (c : Thread nD τ) arg8 fullShare x ∗ owns (c : Thread nD τ) arg12 fullShare (outLater x g u d) ∗ tables c T
          ∗ owns (c : Thread nD τ) inGate fullShare g ∗ owns (c : Thread nD τ) inUp fullShare u ∗ owns (c : Thread nD τ) inDown fullShare d
          ∗ (∃ W', owes (c : Thread nD τ) 0 W')) -∗ K ⟨⟩))
      ⊢ wp frame (wpE (defs₀ (F := F)) Variants.none c none) Set.univ (body i arg8 h8 arg12 h12) K := by
  have hf1 := word_read tbFirst (T 2) i hfirst rfl (k0_off1_inb i)
  have hf21 := word_read tbFirst (T 2) i hfirst (o := k0_off21 i) rfl (k0_off21_inb i)
  have hf25 := word_read tbFirst (T 2) i hfirst (o := k0_off25 i) rfl (k0_off25_inb i)
  unfold body
  simp only [cc0__expert_kernel_eq_skeleton]; unfold cc0__expert_kernel_skel
  unfold owns
  iintro ⟨⟨%f0, %hf0, H0⟩, ⟨%y, %f1, -, H1⟩, ⟨HT0, HT1, HT2, HT3, HT4, HT5, HT6⟩, ⟨%f2, %hf2, H2⟩, ⟨%f3, %hf3, H3⟩, ⟨%f4, %hf4, H4⟩, HW, Hk⟩
  obtain rfl := h8.eq_unread hf0
  obtain rfl := (Memref.isWhole_whole cc0_scratch3).eq_unread hf2
  obtain rfl := (Memref.isWhole_whole cc0_scratch4).eq_unread hf3
  obtain rfl := (Memref.isWhole_whole cc0_scratch5).eq_unread hf4
  sl_exec (disch := first | sl_exact hc1 | sl_exact hc5 | sl_exact hc6)
  sl_step
  iapply Hk
  isplitl [H0]
  · iexists _; isplitr; · ipureintro; exact h8.read_unread _
    iexact H0
  isplitl [H1]
  · iexists _; isplitr; swap; · iexact H1
    ipureintro; exact (View.read_writes_full _ _ _ _ _).trans (outLater_eq h8 x g u d)
  isplitl [HT0 HT1 HT2 HT3 HT4 HT5 HT6]
  · isplitl [HT0]; · iexact HT0
    isplitl [HT1]; · iexact HT1
    isplitl [HT2]; · iexact HT2
    isplitl [HT3]; · iexact HT3
    isplitl [HT4]; · iexact HT4
    isplitl [HT5]; · iexact HT5
    iexact HT6
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; iexact HW

set_option maxHeartbeats 1000000 in
/-- A block past the last in use: zeros. -/
theorem run_past (hfirst : word tbFirst (T 2) i = 0#32)
    (hc1 : ¬ k0_cond1 i = 1#1) (hc5 : ¬ k0_cond5 i 0#32 k = 1#1) (hc6 : k0_cond6 i k = 1#1) (W : Waits sig Unit) (K : PUnit → sProp 𝕄) :
    iprop(owns (c : Thread nD τ) arg8 fullShare x ∗ (∃ y, owns (c : Thread nD τ) arg12 fullShare y) ∗ tables c T
        ∗ owes (c : Thread nD τ) 0 W
        ∗ (iprop(owns (c : Thread nD τ) arg8 fullShare x ∗ owns (c : Thread nD τ) arg12 fullShare (k0_pay3 (F := F)) ∗ tables c T
          ∗ (∃ W', owes (c : Thread nD τ) 0 W')) -∗ K ⟨⟩))
      ⊢ wp frame (wpE (defs₀ (F := F)) Variants.none c none) Set.univ (body i arg8 h8 arg12 h12) K := by
  have hf1 := word_read tbFirst (T 2) i hfirst rfl (k0_off1_inb i)
  have hf21 := word_read tbFirst (T 2) i hfirst (o := k0_off21 i) rfl (k0_off21_inb i)
  have hf25 := word_read tbFirst (T 2) i hfirst (o := k0_off25 i) rfl (k0_off25_inb i)
  unfold body
  simp only [cc0__expert_kernel_eq_skeleton]; unfold cc0__expert_kernel_skel
  unfold owns
  iintro ⟨⟨%f0, %hf0, H0⟩, ⟨%y, %f1, -, H1⟩, ⟨HT0, HT1, HT2, HT3, HT4, HT5, HT6⟩, HW, Hk⟩
  obtain rfl := h8.eq_unread hf0
  sl_exec (disch := first | sl_exact hc1 | sl_exact hc5 | sl_exact hc6)
  sl_step
  iapply Hk
  isplitl [H0]
  · iexists _; isplitr; · ipureintro; exact h8.read_unread _
    iexact H0
  isplitl [H1]
  · iexists _; isplitr; swap; · iexact H1
    ipureintro; exact View.read_writes_full _ _ _ _ _
  isplitl [HT0 HT1 HT2 HT3 HT4 HT5 HT6]
  · isplitl [HT0]; · iexact HT0
    isplitl [HT1]; · iexact HT1
    isplitl [HT2]; · iexact HT2
    isplitl [HT3]; · iexact HT3
    isplitl [HT4]; · iexact HT4
    isplitl [HT5]; · iexact HT5
    iexact HT6
  iexists _; iexact HW

end Runs

end Cert.Experts

end
-- ==== Proof.Experts.Plan.lean ====
/- What the tables say of the grid, in plain numbers: how many blocks are in use, which expert each block belongs to, where that
   expert's blocks end, and which slot its weights come by. -/
module

public import proofs.«01_k».proof.Proof.Experts.Runs

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Idealize.ShloMosaic.Pipeline (Dat Cfg Window BodyObligation cellOf)

variable {F : FTy → Type} [FloatOps F]

/-- A table's entry. -/
def entry (M : Memref sig .tc .smem S320 .i32) (f : M.view.ty.Contents (Elt F)) (t : Fin 320) : BitVec 32 :=
  M.view.read (Elt F) f (ValueIdx.ix1 t)

/-- The tables' reading. Blocks `0 … N - 1` are in use, block `t` by expert `ex t`, whose blocks end before block `stop t` and
    whose weights come by slot `sl t`; at an expert's last block the next block in use begins another expert in the other slot. -/
structure Plan (T : pre0.Contents (Elt F)) where
  N : ℕ
  pos : 1 ≤ N
  le : N ≤ 320
  ex : ℕ → Fin 64
  stop : ℕ → ℕ
  sl : ℕ → Fin 2
  nvb : ∀ j, tbNvb.view.read (Elt F) (T 6) j = BitVec.ofNat 32 N
  blk : ∀ t : Fin 320, entry tbBlk (T 0) t = BitVec.ofNat 32 (min t.val (N - 1))
  start : entry tbFirst (T 2) 0 = 1#32 ∧ sl 0 = 0
  past : ∀ t : Fin 320, N ≤ t.val → entry tbFirst (T 2) t = 0#32
  eid : ∀ t : Fin 320, t.val < N → entry tbEid (T 1) t = BitVec.ofNat 32 (ex t.val).val
  slot : ∀ t : Fin 320, t.val < N → entry tbSlot (T 3) t = BitVec.ofNat 32 (sl t.val).val
  lt_stop : ∀ t, t < N → t < stop t
  stop_le : ∀ t, t < N → stop t ≤ N
  more : ∀ t : Fin 320, t.val < N → entry tbMore (T 5) t = if stop t.val < N then 1#32 else 0#32
  nxt : ∀ t : Fin 320, t.val < N → stop t.val < N → entry tbNxt (T 4) t = BitVec.ofNat 32 (ex (stop t.val)).val
  step : ∀ t : Fin 320, 0 < t.val → t.val < N →
    (entry tbFirst (T 2) t = 1#32 ∧ stop (t.val - 1) = t.val ∧ sl t.val = 1 - sl (t.val - 1))
    ∨ (entry tbFirst (T 2) t = 0#32 ∧ ex t.val = ex (t.val - 1) ∧ stop t.val = stop (t.val - 1) ∧ sl t.val = sl (t.val - 1))

namespace Plan

variable {T : pre0.Contents (Elt F)} (P : Plan T)

/-- The expert whose weights are fetched while block `t`'s are in use, if there is one. -/
def next (t : ℕ) : Option (Fin 64) := if P.stop t < P.N then some (P.ex (P.stop t)) else none

/-- The last block in use before block `t + 1`. -/
def cur (t : ℕ) : ℕ := min t (P.N - 1)

theorem cur_of_lt {t : ℕ} (h : t < P.N) : P.cur t = t := by unfold cur; omega
theorem cur_of_le {t : ℕ} (h : P.N ≤ t) (ht : 0 < t) : P.cur t = P.cur (t - 1) := by
  have := P.pos; unfold cur; omega

/-- The number of blocks in use as the kernel loads it. -/
theorem load : tbNvb.view.readAt (Elt F) (Rect.unit (s := S1) ![0] S1.size inb_S1_S1_0).toLoadRect (T 6) = fun _ => BitVec.ofNat 32 P.N := by
  funext j; exact (View.readAt_apply _ _ _).trans (P.nvb _)

/-- The block of rows handed to the kernel at a point. -/
theorem rows (i : grid0.Coords) : cc0_transform_0 k0_off1_inb numel1_S1 T i = ![min (pt i).val (P.N - 1), 0] := by
  have hw : T.at 0 (Rect.unit (s := S320) (k0_off1 i) S1.size (k0_off1_inb i)) numel1_S1 = BitVec.ofNat 32 (min (pt i).val (P.N - 1)) := by
    have h := word_read tbBlk (T 0) i (P.blk (pt i)) rfl (k0_off1_inb i)
    exact congrFun h _
  have h1 := (pt i).isLt
  funext a; fin_cases a
  · show (T.at 0 (Rect.unit (s := S320) (k0_off1 i) S1.size (k0_off1_inb i)) numel1_S1).toNat = _
    rw [hw, BitVec.toNat_ofNat]
    show min (pt i).val (P.N - 1) % 4294967296 = min (pt i).val (P.N - 1)
    omega
  · rfl

include P in
/-- Every block of rows the tables name lies inside the array. -/
theorem ok : ok0 (F := F) T := by
  intro i
  refine ⟨fun a => ?_, .inr (Affine.block_words_dvd (of_decide_eq_true rfl) (by decide))⟩
  have h1 := (pt i).isLt
  rw [P.rows]
  fin_cases a
  · show (min (pt i).val (P.N - 1) + 1) * 512 ≤ 163840
    omega
  · exact Nat.le_of_eq rfl

end Plan

/-! ## The kernel's tests of the grid point -/

theorem pt_coords (t : Fin grid0.N) : (pt (grid0.coords t)).val = t.val := by
  have h : t.val < 320 := lt_of_lt_of_eq t.isLt N_0
  show t.val / 1 % 320 = t.val
  omega

theorem cond1_iff (i : grid0.Coords) : k0_cond1 i = 1#1 ↔ (pt i).val = 0 := by
  have h := (pt i).isLt
  show IntOp.cmpi .ne (BitVec.setWidth 32 (IntOp.cmpi .eq (BitVec.ofNat 32 (pt i).val) (BitVec.ofNat 32 0))) 0#32 = 1#1 ↔ _
  rw [cmpi_eq_ofNat (by omega) (by omega)]
  by_cases h0 : (pt i).val = 0 <;> simp [h0, IntOp.cmpi]

theorem cond5_iff (i : grid0.Coords) (w : BitVec 32) (N : ℕ) (hN : N ≤ 320) : k0_cond5 i w (BitVec.ofNat 32 N) = 1#1 ↔ w = 0#32 ∧ (pt i).val < N := by
  have h := (pt i).isLt
  show IntOp.cmpi .ne (BitVec.setWidth 32 (IntOp.andi (IntOp.cmpi .eq w 0#32) (IntOp.cmpi .slt (BitVec.ofNat 32 (pt i).val) (BitVec.ofNat 32 N)))) 0#32 = 1#1 ↔ _
  rw [cmpi_slt_ofNat (by omega) (by omega), cmpi_eq_eq, andi_ofBool]
  by_cases h0 : (pt i).val < N <;> by_cases hw : w = 0#32 <;> simp [h0, hw, IntOp.cmpi]

theorem cond6_iff (i : grid0.Coords) (N : ℕ) (hN : N ≤ 320) : k0_cond6 i (BitVec.ofNat 32 N) = 1#1 ↔ N ≤ (pt i).val := by
  have h := (pt i).isLt
  show IntOp.cmpi .ne (BitVec.setWidth 32 (IntOp.cmpi .sge (BitVec.ofNat 32 (pt i).val) (BitVec.ofNat 32 N))) 0#32 = 1#1 ↔ _
  rw [cmpi_sge_ofNat (by omega) (by omega)]
  by_cases h0 : N ≤ (pt i).val <;> simp [h0, IntOp.cmpi]

end Cert.Experts

end
-- ==== Proof.Experts.Numbers.lean ====
/- The layout of the rows in plain numbers: each expert's rows are rounded up to whole blocks of 512 and laid out one expert after the
   other; block `t` of the 320 belongs to the expert whose stretch it lies in. From the counts alone follow the experts of the blocks,
   where an expert's blocks end, which block is an expert's first, and the slot that alternates from one expert to the next. -/
module

public import Idealize.ShloMosaic.Lib.Routing.Count

@[expose] public section

namespace Cert.Experts

/-- How many rows each of the 64 experts has: at least one in all, and at most 131072. -/
structure Counts where
  c : ℕ → ℕ
  pos : 1 ≤ ((List.range 64).map c).sum
  sum_le : ((List.range 64).map c).sum ≤ 131072

namespace Counts

variable (C : Counts)

/-- An expert's rows rounded up to whole blocks. -/
def pad (j : ℕ) : ℕ := (C.c j + 511) / 512 * 512

/-- Where expert `j`'s stretch ends. -/
def ends (j : ℕ) : ℕ := ((List.range (j + 1)).map C.pad).sum

theorem ends_zero : C.ends 0 = C.pad 0 := by simp [ends]

theorem ends_succ (j : ℕ) : C.ends (j + 1) = C.ends j + C.pad (j + 1) := by
  unfold ends
  rw [List.range_succ, List.map_append, List.sum_append, List.map_singleton, List.sum_singleton]

theorem ends_dvd (j : ℕ) : 512 ∣ C.ends j := by
  induction j with
  | zero => rw [ends_zero]; exact Dvd.intro_left _ rfl
  | succ j ih => rw [ends_succ]; exact Nat.dvd_add ih (Dvd.intro_left _ rfl)

theorem ends_mono : Monotone C.ends := monotone_nat_of_le_succ fun j => by rw [ends_succ]; omega

/-- The rows of the first experts. -/
theorem sum_succ (j : ℕ) : ((List.range (j + 1)).map C.c).sum = ((List.range j).map C.c).sum + C.c j := by
  rw [List.range_succ, List.map_append, List.sum_append, List.map_singleton, List.sum_singleton]

/-- The stretches hold the rows, and no more than 511 rows besides for each expert. -/
theorem ends_bounds (j : ℕ) : ((List.range (j + 1)).map C.c).sum ≤ C.ends j ∧ C.ends j ≤ ((List.range (j + 1)).map C.c).sum + 511 * (j + 1) := by
  induction j with
  | zero =>
    rw [ends_zero, sum_succ]
    have : C.pad 0 = (C.c 0 + 511) / 512 * 512 := rfl
    simp only [List.range_zero, List.map_nil, List.sum_nil]
    omega
  | succ j ih =>
    rw [ends_succ, sum_succ]
    have : C.pad (j + 1) = (C.c (j + 1) + 511) / 512 * 512 := rfl
    omega

theorem sum_mono {i j : ℕ} (h : i ≤ j) : ((List.range i).map C.c).sum ≤ ((List.range j).map C.c).sum :=
  monotone_nat_of_le_succ (f := fun i => ((List.range i).map C.c).sum) (fun i => by show _ ≤ _; rw [sum_succ]; omega) h

/-- No expert has more rows than there are. -/
theorem c_le {j : ℕ} (h : j < 64) : C.c j ≤ 131072 := by
  have h1 := C.sum_succ j
  have h2 := C.sum_mono (show j + 1 ≤ 64 by omega)
  have := C.sum_le
  omega

theorem ends_le {j : ℕ} (h : j < 64) : C.ends j ≤ 163776 := by
  have h1 := C.ends_mono (show j ≤ 63 by omega)
  have h2 := (C.ends_bounds 63).2
  simp only [Nat.reduceAdd] at h2
  have := C.sum_le
  omega

/-- The blocks in use. -/
def used : ℕ := C.ends 63 / 512

theorem used_mul : C.used * 512 = C.ends 63 := Nat.div_mul_cancel (C.ends_dvd 63)

theorem used_pos : 1 ≤ C.used := by
  have h1 := (C.ends_bounds 63).1
  simp only [Nat.reduceAdd] at h1
  have h2 := C.used_mul
  have := C.pos
  omega

theorem used_le : C.used ≤ 319 := by
  have h1 := C.ends_le (show 63 < 64 by omega)
  have h2 := C.used_mul
  omega

/-- How many stretches end at or before row `s`. -/
def passed (s : ℕ) : ℕ := Nat.count (fun j => C.ends j ≤ s) 64

theorem passed_iff (s j : ℕ) (hj : j < 64) : C.ends j ≤ s ↔ j < C.passed s :=
  Idealize.ShloMosaic.Routing.lt_count_iff (fun a b hab _ h => (C.ends_mono hab).trans h) hj

theorem passed_le (s : ℕ) : C.passed s ≤ 64 := Nat.count_le _

theorem passed_mono {s s' : ℕ} (h : s ≤ s') : C.passed s ≤ C.passed s' :=
  Nat.count_mono_left fun j _ hj => hj.trans h

theorem passed_lt {s : ℕ} (h : s < C.ends 63) : C.passed s < 64 := by
  have h1 := (C.passed_iff s 63 (by omega))
  have h2 := C.passed_le s
  omega

/-- Row `s`'s expert: the last one, past the rows in use. -/
def owner (s : ℕ) : ℕ := min (C.passed s) 63

theorem owner_lt (s : ℕ) : C.owner s < 64 := by unfold owner; omega

/-- Block `t`'s expert; the blocks past those in use repeat the last. -/
def ex (t : ℕ) : ℕ := C.owner (min t (C.used - 1) * 512)

theorem ex_lt (t : ℕ) : C.ex t < 64 := C.owner_lt _

theorem ex_eq {t : ℕ} (h : t < C.used) : C.ex t = C.passed (t * 512) := by
  have h1 := C.used_mul
  have h2 := C.passed_lt (show t * 512 < C.ends 63 by omega)
  unfold ex owner
  rw [Nat.min_eq_left (show t ≤ C.used - 1 by omega)]
  omega

/-- The block where the stretch of block `t`'s expert ends. -/
def stop (t : ℕ) : ℕ := C.ends (C.ex t) / 512

theorem stop_mul (t : ℕ) : C.stop t * 512 = C.ends (C.ex t) := Nat.div_mul_cancel (C.ends_dvd _)

theorem lt_stop {t : ℕ} (h : t < C.used) : t < C.stop t := by
  have h1 := C.passed_iff (t * 512) (C.ex t) (C.ex_lt t)
  have h2 := C.ex_eq h
  have h3 := C.stop_mul t
  omega

theorem stop_le (t : ℕ) : C.stop t ≤ C.used := by
  have h1 := C.ends_mono (show C.ex t ≤ 63 by have := C.ex_lt t; omega)
  have h2 := C.stop_mul t
  have h3 := C.used_mul
  omega

/-- Is block `t` the first of its expert? -/
def isFirst (t : ℕ) : Prop := t < C.used ∧ (t = 0 ∨ C.ex t ≠ C.ex (t - 1))

instance : DecidablePred C.isFirst := fun t => by unfold isFirst; infer_instance

/-- How many experts have begun by block `t`. -/
def begun (t : ℕ) : ℕ := ((List.range (t + 1)).map fun u => if C.isFirst u then 1 else 0).sum

theorem begun_succ (t : ℕ) : C.begun (t + 1) = C.begun t + if C.isFirst (t + 1) then 1 else 0 := by
  unfold begun
  rw [List.range_succ, List.map_append, List.sum_append, List.map_singleton, List.sum_singleton]

theorem begun_zero : C.begun 0 = 1 := by
  have : C.isFirst 0 := ⟨C.used_pos, Or.inl rfl⟩
  simp [begun, this]

theorem begun_pos (t : ℕ) : 1 ≤ C.begun t := by
  induction t with
  | zero => rw [begun_zero]
  | succ t ih => rw [begun_succ]; omega

theorem begun_le (t : ℕ) : C.begun t ≤ t + 1 := by
  induction t with
  | zero => rw [begun_zero]
  | succ t ih =>
    rw [begun_succ]
    have : (if C.isFirst (t + 1) then 1 else 0) ≤ 1 := by split <;> omega
    omega

/-- The slot of block `t`'s expert. -/
def sl (t : ℕ) : ℕ := (C.begun t - 1) % 2

theorem sl_lt (t : ℕ) : C.sl t < 2 := Nat.mod_lt _ (by omega)

theorem sl_zero : C.sl 0 = 0 := by unfold sl; rw [begun_zero]

/-- The next block either begins a new expert where the last one's blocks end, in the other slot, or goes on with it. -/
theorem step {t : ℕ} (h0 : 0 < t) (h : t < C.used) :
    (C.isFirst t ∧ C.stop (t - 1) = t ∧ C.sl t = 1 - C.sl (t - 1)) ∨ (¬ C.isFirst t ∧ C.ex t = C.ex (t - 1)) ∧ C.stop t = C.stop (t - 1) ∧ C.sl t = C.sl (t - 1) := by
  obtain ⟨t, rfl⟩ : ∃ k, t = k + 1 := ⟨t - 1, by omega⟩
  rw [Nat.add_sub_cancel]
  have hb := C.begun_succ t
  have hp := C.begun_pos t
  by_cases he : C.ex (t + 1) = C.ex t
  · have hf : ¬ C.isFirst (t + 1) := fun hf => by
      rcases hf.2 with h' | h'
      · omega
      · exact h' he
    rw [if_neg hf] at hb
    exact Or.inr ⟨⟨hf, he⟩, by unfold stop; rw [he], by unfold sl; rw [hb]; rfl⟩
  · have hf : C.isFirst (t + 1) := ⟨h, Or.inr he⟩
    rw [if_pos hf] at hb
    refine Or.inl ⟨hf, ?_, ?_⟩
    · have h1 := C.lt_stop (show t < C.used by omega)
      have h2 := C.passed_mono (show t * 512 ≤ (t + 1) * 512 by omega)
      have h3 := C.ex_eq h
      have h4 := C.ex_eq (show t < C.used by omega)
      have h5 := C.passed_iff ((t + 1) * 512) (C.ex t) (C.ex_lt t)
      have h6 := C.stop_mul t
      omega
    · unfold sl; rw [hb]; omega

end Counts

end Cert.Experts
-- ==== Proof.Experts.Words.lean ====
/- The host's index arithmetic on vectors of words that hold natural numbers: rounding up to whole blocks, running sums, the expert whose
   stretch a row lies in, the wrapped index of a take. Written for any vectors, so that the kernel's tables and the reference's index
   read off the same facts. -/
module

public import proofs.«01_k».proof.Proof.Experts.Numbers
public import Idealize.ShloMosaic.Lib.Routing.Words
public import Idealize.ShloMosaic.Lib.Routing.OpsSet
public import Idealize.ShloMosaic.Lib.Pipeline.Value

@[expose] public section

noncomputable section

namespace Cert.Experts

open Idealize.ShloMosaic Idealize.ShloMosaic.ValueIdx Idealize.ShloMosaic.Routing Idealize.ShloMosaic.WordCmp

/-- The vector holds the numbers `f 0, f 1, …`. -/
abbrev Holds {n : ℕ} (x : IVec (shape1 n) 32) (f : ℕ → ℕ) : Prop := ∀ i : Fin n, x (ix1 i) = BitVec.ofNat 32 (f i.val)

/-- The smaller of two words. -/
theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (by simpa using h), Nat.min_eq_right (Nat.le_of_not_lt h)]

/-- A bit widened to a word. -/
theorem widen_word (p : Prop) [Decidable p] : (BitVec.ofBool (decide p)).setWidth 32 = if p then 1#32 else 0#32 := by
  by_cases h : p
  · rw [if_pos h, decide_eq_true h]; rfl
  · rw [if_neg h, decide_eq_false h]; rfl

variable {n : ℕ} (hb : shape0.BroadcastsInDim (shape1 n) (![] : Fin 0 → Fin (shape1 n).rank))

/-- The same word at every index. -/
abbrev fill (k : BitVec 32) : IVec (shape1 n) 32 := broadcastInDim (shape1 n) ![] hb (constantI shape0 32 k)

theorem fill_at (k : BitVec 32) (i : (shape1 n).Idx) : fill hb k i = k := bc0 hb _ i

/-- Whole blocks of 512 that cover the counts. -/
theorem blocks_holds (x : IVec (shape1 n) 32) (c : ℕ → ℕ) (hx : Holds x c) (hc : ∀ i < n, c i ≤ 131072) :
    Holds (muli (pyDiv hb (subi (addi x (fill hb 512#32)) (fill hb 1#32)) (id (constantI shape0 32 512#32))) (fill hb 512#32)) (fun i => (c i + 511) / 512 * 512) := by
  intro i
  have hci := hc i.val i.isLt
  have h1 : subi (addi x (fill hb 512#32)) (fill hb 1#32) (ix1 i) = BitVec.ofNat 32 (c i.val + 511) := by
    rw [subi_ap, addi_ap, fill_at, fill_at, hx i]
    show BitVec.ofNat 32 (c i.val) + BitVec.ofNat 32 512 - BitVec.ofNat 32 1 = _
    rw [BitVec.ofNat_add_ofNat, ofNat32_sub (by omega)]
    rfl
  rw [muli_ap, fill_at, pyDiv_ap hb _ _ _ (b := 512) h1 rfl (by omega) (by omega) (by omega)]
  exact muli_ofNat (w := 32) _ 512

/-- A vector's last of 64 entries, as a number. -/
theorem last_at (x : IVec (shape1 64) 32) (hs : (shape1 64).Slices ![63] (shape1 1)) (hc : (shape1 1).ShapeCasts shape0) :
    shapeCast shape0 (extractStridedSlice (shape1 1) ![63] x hs) hc ix0 = x (ix1 (63 : Fin 64)) := by
  refine (shapeCast_apply _ hc _ (ix1 (0 : Fin 1)) ?_).trans (slice1 63 x hs 0 (by decide))
  have h1 := ((shape1 1).rowMajor (ix1 (0 : Fin 1))).isLt
  have h2 := (shape0.rowMajor ix0).isLt
  have e1 := numel1 1
  have e0 : shape0.numel = 1 := by decide
  omega

/-- One number as a list of one. -/
theorem one_at (x : IVec shape0 32) (hc : shape0.ShapeCasts (shape1 1)) (j : (shape1 1).Idx) : shapeCast (shape1 1) x hc j = x ix0 := by
  refine shapeCast_apply x hc j ix0 ?_
  have h1 := ((shape1 1).rowMajor j).isLt
  have h2 := (shape0.rowMajor ix0).isLt
  have e1 := numel1 1
  have e0 : shape0.numel = 1 := by decide
  omega

/-- The floor division of one number, with no vectors about. -/
theorem div_scalar (x : IVec shape0 32) {a : ℕ} (hx : x ix0 = BitVec.ofNat 32 a) (ha : a < 2 ^ 31) :
    select (andi (cmpi .ne (signi x) (signi (id (constantI shape0 32 512#32)))) (cmpi .ne (Host.remsi x (id (constantI shape0 32 512#32))) (constantI shape0 32 0#32)))
      (subi (Host.divsi x (id (constantI shape0 32 512#32))) (constantI shape0 32 1#32)) (Host.divsi x (id (constantI shape0 32 512#32))) ix0 = BitVec.ofNat 32 (a / 512) := by
  have hk := pyDiv_ap (s := shape0) (by decide) x (constantI shape0 32 512#32) ix0 (b := 512) hx rfl ha (by omega) (by omega)
  unfold pyDiv at hk
  simp only [select_at, cmpi_at, andi_at, subi_ap, Host.remsi_apply, Host.divsi_apply, signi_apply, bc0, constantI_at, id_eq] at hk ⊢
  exact hk

/-- The expert of each row of a list: how many of the 64 stretches end at or before it, the last expert at most. -/
abbrev ownerOf (h₁ : (shape1 64).BroadcastsInDim (shape2 1 64) (![1] : Fin 1 → Fin (shape2 1 64).rank))
    (h₂ : (shape2 1 64).BroadcastsInDim (shape2 n 64) (![0, 1] : Fin 2 → Fin (shape2 n 64).rank))
    (h₃ : (shape1 n).BroadcastsInDim (shape2 n 1) (![0] : Fin 1 → Fin (shape2 n 1).rank))
    (h₄ : (shape2 n 1).BroadcastsInDim (shape2 n 64) (![0, 1] : Fin 2 → Fin (shape2 n 64).rank))
    (hr : (shape2 n 64).ReducesTo [1] (shape1 n)) (hu : 0 < shape0.numel) (hw : 1 < 32) (ends : IVec (shape1 64) 32) (rows : IVec (shape1 n) 32) : IVec (shape1 n) 32 :=
  minsi (Host.reduce IntOp.addi (extui 32 (cmpi .sle (broadcastInDim (shape2 n 64) ![0, 1] h₂ (broadcastInDim (shape2 1 64) ![1] h₁ ends))
    (broadcastInDim (shape2 n 64) ![0, 1] h₄ (broadcastInDim (shape2 n 1) ![0] h₃ rows))) hw) (constantI shape0 32 0#32) hr hu) (fill hb 63#32)

theorem owner_holds (C : Counts) (h₁ : (shape1 64).BroadcastsInDim (shape2 1 64) (![1] : Fin 1 → Fin (shape2 1 64).rank))
    (h₂ : (shape2 1 64).BroadcastsInDim (shape2 n 64) (![0, 1] : Fin 2 → Fin (shape2 n 64).rank))
    (h₃ : (shape1 n).BroadcastsInDim (shape2 n 1) (![0] : Fin 1 → Fin (shape2 n 1).rank))
    (h₄ : (shape2 n 1).BroadcastsInDim (shape2 n 64) (![0, 1] : Fin 2 → Fin (shape2 n 64).rank))
    (hr : (shape2 n 64).ReducesTo [1] (shape1 n)) (hu : 0 < shape0.numel) (hw : 1 < 32) (ends : IVec (shape1 64) 32) (rows : IVec (shape1 n) 32) (s : ℕ → ℕ)
    (he : Holds ends C.ends) (hs : Holds rows s) (hlt : ∀ i < n, s i < 2 ^ 31) :
    Holds (ownerOf hb h₁ h₂ h₃ h₄ hr hu hw ends rows) (fun i => C.owner (s i)) := by
  intro i
  show IntOp.minsi (Host.reduce IntOp.addi _ _ hr hu (ix1 i)) (fill hb 63#32 (ix1 i)) = _
  rw [fill_at, reduce_count (by decide) _ hw hr hu i (fun j => C.ends j ≤ s i.val) (fun q => ?_)]
  · have := C.passed_le (s i.val)
    exact minsi_word (a := C.passed (s i.val)) (b := 63) (by omega) (by omega)
  · have h1 := C.ends_le q.isLt
    rw [cmpi_at, bcCols, bcRows, he q, hs i]
    exact cmpi_sle_ofNat_eq_one_iff (w := 32) (by show C.ends q.val < 2 ^ 31; omega) (hlt i.val i.isLt)

/-- An index that is no negative number stays as it is. -/
theorem wrap_holds (k : BitVec 32) (x : IVec (shape1 n) 32) (f : ℕ → ℕ) (hx : Holds x f) (hf : ∀ i < n, f i < 2 ^ 31) :
    Holds (select (cmpi .slt x (fill hb 0#32)) (addi x (fill hb k)) x) f := by
  intro i
  rw [select_at, cmpi_at, fill_at, hx i, show (0#32 : BitVec 32) = BitVec.ofNat 32 0 from rfl,
    cmpi_slt_ofNat (w := 32) (hf i.val i.isLt) (by decide), select_decide, if_neg (by omega)]

end Cert.Experts

end
-- ==== Proof.Experts.Lines.lean ====
/- The host's tables, each written in the tables before it. -/
module

public import proofs.«01_k».proof.Proof.Experts.Plan
public import proofs.«01_k».proof.Proof.Experts.Words
public import Idealize.ShloMosaic.Lib.StableHlo.RunRead

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Routing (shape0 shape1 shape2 pyDiv pyRem)

variable (m : (ℓ : Loc nD τ sig) → Buf (Elt F) ℓ) (c : Dev nD)

set_option maxHeartbeats 4000000

/-- The host's operations, the first `k` stretches apart from the others. -/
theorem V_cut (k : ℕ) (b : Ref sig .tc) : V m c b = StableHlo.after (stretches.drop k).flatten (StableHlo.after (stretches.take k).flatten (fun b => m (c, b))) b := by
  rw [← StableHlo.after_append, ← List.flatten_append, List.take_append_drop]
  rfl

/-- The counts and one block less one more. -/
theorem line_up : V m c main_v3 = subi (addi (m ((c.tc : Thread nD τ).loc main_arg0)) (fill bcast_S_S64 512#32)) (fill bcast_S_S64 1#32) := by
  rw [V_cut m c 0 main_v3]
  show StableHlo.after _ (fun b => m (c, b)) _ = _
  simp only [stretches, List.drop_succ_cons, List.drop_zero, List.flatten_cons, List.flatten_nil, List.append_nil]
  after_reads_simp
  first | done | rfl

theorem line_c1 : V m c main_c_1 = constantI S_ 32 512#32 := by
  rw [V_cut m c 0 main_c_1]
  show StableHlo.after _ (fun b => m (c, b)) _ = _
  simp only [stretches, List.drop_succ_cons, List.drop_zero, List.flatten_cons, List.flatten_nil, List.append_nil]
  after_reads_simp
  first | done | rfl

/-- The counts divided by the block, rounded up. -/
theorem line_quot : V m c main_v4 = pyDiv bcast_S_S64 (V m c main_v3) (id (V m c main_c_1)) := by
  rw [V_cut m c 1 main_v4, V_cut m c 1 main_v3, V_cut m c 1 main_c_1]
  generalize StableHlo.after (stretches.take 1).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- The counts in whole blocks. -/
theorem line_blocks : V m c main_v6 = muli (V m c main_v4) (fill bcast_S_S64 512#32) := by
  rw [V_cut m c 2 main_v6, V_cut m c 2 main_v4]
  generalize StableHlo.after (stretches.take 2).flatten (fun b => m (c, b)) = W
  simp only [stretches, List.drop_succ_cons, List.drop_zero, List.flatten_cons, List.flatten_nil, List.append_nil]
  after_reads_simp
  first | done | rfl

/-- Where the experts' stretches end: the running sums. -/
theorem line_ends : V m c main_v7 = Host.reduceWindow IntOp.addi ![64] ![1] ![63] ![0] (V m c main_v6) (broadcastInDim S_ ![] bcast_S_S_ (constantI S_ 32 0#32)) reduceWindows_S64_S64_w64s1p63_0 h_S_ := by
  rw [V_cut m c 3 main_v7, V_cut m c 3 main_v6]
  generalize StableHlo.after (stretches.take 3).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- The end of the last stretch. -/
theorem line_last : V m c main_v9 = shapeCast S_ (extractStridedSlice S1 ![63] (V m c main_v7) slices_S64_S1_63) shapeCasts_S1_S_ := by
  rw [V_cut m c 4 main_v9, V_cut m c 4 main_v7]
  generalize StableHlo.after (stretches.take 4).flatten (fun b => m (c, b)) = W
  simp only [stretches, List.drop_succ_cons, List.drop_zero, List.flatten_cons, List.flatten_nil, List.append_nil]
  after_reads_simp
  first | done | rfl

theorem line_c3 : V m c main_c_3 = constantI S_ 32 512#32 := by
  rw [V_cut m c 4 main_c_3]
  generalize StableHlo.after (stretches.take 4).flatten (fun b => m (c, b)) = W
  simp only [stretches, List.drop_succ_cons, List.drop_zero, List.flatten_cons, List.flatten_nil, List.append_nil]
  after_reads_simp
  first | done | rfl

/-- The number of blocks in use. -/
theorem line_used : V m c main_v10 = select (andi (cmpi .ne (signi (V m c main_v9)) (signi (id (V m c main_c_3)))) (cmpi .ne (Host.remsi (V m c main_v9) (id (V m c main_c_3))) (constantI S_ 32 0#32)))
    (subi (Host.divsi (V m c main_v9) (id (V m c main_c_3))) (constantI S_ 32 1#32)) (Host.divsi (V m c main_v9) (id (V m c main_c_3))) := by
  rw [V_cut m c 5 main_v10, V_cut m c 5 main_v9, V_cut m c 5 main_c_3]
  generalize StableHlo.after (stretches.take 5).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- Each step's block of rows: the last one in use again past it. -/
theorem line_block : V m c main_v14 = minsi (iotaInDim S320 32 0) (broadcastInDim S320 ![] bcast_S_S320 (subi (V m c main_v10) (constantI S_ 32 1#32))) := by
  rw [V_cut m c 6 main_v14, V_cut m c 6 main_v10]
  generalize StableHlo.after (stretches.take 6).flatten (fun b => m (c, b)) = W
  simp only [stretches, List.drop_succ_cons, List.drop_zero, List.flatten_cons, List.flatten_nil, List.append_nil]
  after_reads_simp
  first | done | rfl

/-- Each block's expert. -/
theorem line_expert : V m c main_v25 = ownerOf bcast_S_S320 bcast_S64_S1x64_1 bcast_S1x64_S320x64_0_1 bcast_S320_S320x1_0 bcast_S320x1_S320x64_0_1 reducesTo_S320x64_S320_d1 h_S_ natLt_1_32
    (V m c main_v7) (muli (V m c main_v14) (fill bcast_S_S320 512#32)) := by
  rw [V_cut m c 6 main_v25, V_cut m c 6 main_v7, V_cut m c 6 main_v14]
  generalize StableHlo.after (stretches.take 6).flatten (fun b => m (c, b)) = W
  simp only [stretches, List.drop_succ_cons, List.drop_zero, List.flatten_cons, List.flatten_nil, List.append_nil]
  after_reads_simp
  first | done | rfl

/-- Which blocks are in use. -/
theorem line_inuse : V m c main_v28 = cmpi .slt (iotaInDim S320 32 0) (broadcastInDim S320 ![] bcast_S_S320 (V m c main_v10)) := by
  rw [V_cut m c 6 main_v28, V_cut m c 6 main_v10]
  generalize StableHlo.after (stretches.take 6).flatten (fun b => m (c, b)) = W
  simp only [stretches, List.drop_succ_cons, List.drop_zero, List.flatten_cons, List.flatten_nil, List.append_nil]
  after_reads_simp
  first | done | rfl

/-- The first block. -/
theorem line_zero : V m c main_v30 = cmpi .eq (iotaInDim S320 32 0) (fill bcast_S_S320 0#32) := by
  rw [V_cut m c 6 main_v30]
  generalize StableHlo.after (stretches.take 6).flatten (fun b => m (c, b)) = W
  simp only [stretches, List.drop_succ_cons, List.drop_zero, List.flatten_cons, List.flatten_nil, List.append_nil]
  after_reads_simp
  first | done | rfl

/-- The expert of the block before. -/
theorem line_before : V m c main_v31 = concatenate S320 0 [⟨S1, extractStridedSlice S1 ![319] (V m c main_v25) slices_S320_S1_319⟩, ⟨S319, extractStridedSlice S319 ![0] (V m c main_v25) slices_S320_S319_0⟩] concatenates_S1_S319_S320_d0 := by
  rw [V_cut m c 7 main_v31, V_cut m c 7 main_v25]
  generalize StableHlo.after (stretches.take 7).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- Which blocks begin a new expert. -/
theorem line_first : V m c main_v35 = extui 32 (andi (V m c main_v28) (ori (V m c main_v30) (cmpi .ne (V m c main_v25) (V m c main_v31)))) natLt_1_32 := by
  rw [V_cut m c 8 main_v35, V_cut m c 8 main_v25, V_cut m c 8 main_v28, V_cut m c 8 main_v30, V_cut m c 8 main_v31]
  generalize StableHlo.after (stretches.take 8).flatten (fun b => m (c, b)) = W
  simp only [stretches, List.drop_succ_cons, List.drop_zero, List.flatten_cons, List.flatten_nil, List.append_nil]
  after_reads_simp
  first | done | rfl

/-- How many experts have begun. -/
theorem line_begun : V m c main_v36 = Host.reduceWindow IntOp.addi ![320] ![1] ![319] ![0] (V m c main_v35) (broadcastInDim S_ ![] bcast_S_S_ (constantI S_ 32 0#32)) reduceWindows_S320_S320_w320s1p319_0 h_S_ := by
  rw [V_cut m c 9 main_v36, V_cut m c 9 main_v35]
  generalize StableHlo.after (stretches.take 9).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

theorem line_less : V m c main_v38 = subi (V m c main_v36) (fill bcast_S_S320 1#32) := by
  rw [V_cut m c 10 main_v38, V_cut m c 10 main_v36]
  generalize StableHlo.after (stretches.take 10).flatten (fun b => m (c, b)) = W
  simp only [stretches, List.drop_succ_cons, List.drop_zero, List.flatten_cons, List.flatten_nil, List.append_nil]
  after_reads_simp
  first | done | rfl

theorem line_c10 : V m c main_c_10 = constantI S_ 32 2#32 := by
  rw [V_cut m c 10 main_c_10]
  generalize StableHlo.after (stretches.take 10).flatten (fun b => m (c, b)) = W
  simp only [stretches, List.drop_succ_cons, List.drop_zero, List.flatten_cons, List.flatten_nil, List.append_nil]
  after_reads_simp
  first | done | rfl

/-- The slot of each block's expert. -/
theorem line_slot : V m c main_v39 = pyRem bcast_S_S320 (V m c main_v38) (id (V m c main_c_10)) := by
  rw [V_cut m c 11 main_v39, V_cut m c 11 main_v38, V_cut m c 11 main_c_10]
  generalize StableHlo.after (stretches.take 11).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- Where the stretch of each block's expert ends. -/
theorem line_end : V m c main_v46 = Host.gather gather_S64_S320x1_S320_n_0_n_n_0_1_1 (V m c main_v7) (broadcastInDim S320x1 ![0] bcast_S320_S320x1_0
    (select (cmpi .slt (V m c main_v25) (fill bcast_S_S320 0#32)) (addi (V m c main_v25) (fill bcast_S_S320 64#32)) (V m c main_v25))) := by
  rw [V_cut m c 12 main_v46, V_cut m c 12 main_v7, V_cut m c 12 main_v25]
  generalize StableHlo.after (stretches.take 12).flatten (fun b => m (c, b)) = W
  simp only [stretches, List.drop_succ_cons, List.drop_zero, List.flatten_cons, List.flatten_nil, List.append_nil]
  after_reads_simp
  first | done | rfl

theorem line_c13 : V m c main_c_13 = constantI S_ 32 512#32 := by
  rw [V_cut m c 12 main_c_13]
  generalize StableHlo.after (stretches.take 12).flatten (fun b => m (c, b)) = W
  simp only [stretches, List.drop_succ_cons, List.drop_zero, List.flatten_cons, List.flatten_nil, List.append_nil]
  after_reads_simp
  first | done | rfl

/-- The block where it ends. -/
theorem line_stop : V m c main_v47 = pyDiv bcast_S_S320 (V m c main_v46) (id (V m c main_c_13)) := by
  rw [V_cut m c 13 main_v47, V_cut m c 13 main_v46, V_cut m c 13 main_c_13]
  generalize StableHlo.after (stretches.take 13).flatten (fun b => m (c, b)) = W
  simp only [stretches, List.drop_succ_cons, List.drop_zero, List.flatten_cons, List.flatten_nil, List.append_nil]
  after_reads_simp
  simp only [StableHlo.TRef.toBuf, StableHlo.TRef.ofBuf, cast_eq]
  first | done | rfl

/-- Is there another expert after it? -/
theorem line_more : V m c main_v50 = extui 32 (cmpi .slt (V m c main_v47) (broadcastInDim S320 ![] bcast_S_S320 (V m c main_v10))) natLt_1_32 := by
  rw [V_cut m c 14 main_v50, V_cut m c 14 main_v47, V_cut m c 14 main_v10]
  generalize StableHlo.after (stretches.take 14).flatten (fun b => m (c, b)) = W
  simp only [stretches, List.drop_succ_cons, List.drop_zero, List.flatten_cons, List.flatten_nil, List.append_nil]
  after_reads_simp
  first | done | rfl

/-- The block where the next expert begins, within the 320. -/
theorem line_at : V m c main_v52 = minsi (V m c main_v47) (fill bcast_S_S320 319#32) := by
  rw [V_cut m c 14 main_v52, V_cut m c 14 main_v47]
  generalize StableHlo.after (stretches.take 14).flatten (fun b => m (c, b)) = W
  simp only [stretches, List.drop_succ_cons, List.drop_zero, List.flatten_cons, List.flatten_nil, List.append_nil]
  after_reads_simp
  first | done | rfl

/-- The expert that comes next. -/
theorem line_next : V m c main_v59 = Host.gather gather_S320_S320x1_S320_n_0_n_n_0_1_1 (V m c main_v25) (broadcastInDim S320x1 ![0] bcast_S320_S320x1_0
    (select (cmpi .slt (V m c main_v52) (fill bcast_S_S320 0#32)) (addi (V m c main_v52) (fill bcast_S_S320 320#32)) (V m c main_v52))) := by
  rw [V_cut m c 14 main_v59, V_cut m c 14 main_v25, V_cut m c 14 main_v52]
  generalize StableHlo.after (stretches.take 14).flatten (fun b => m (c, b)) = W
  simp only [stretches, List.drop_succ_cons, List.drop_zero, List.flatten_cons, List.flatten_nil, List.append_nil]
  after_reads_simp
  first | done | rfl

/-- The number of blocks in use, as a list of one. -/
theorem line_count : V m c main_v60 = shapeCast S1 (V m c main_v10) shapeCasts_S_S1 := by
  rw [V_cut m c 14 main_v60, V_cut m c 14 main_v10]
  generalize StableHlo.after (stretches.take 14).flatten (fun b => m (c, b)) = W
  simp only [stretches, List.drop_succ_cons, List.drop_zero, List.flatten_cons, List.flatten_nil, List.append_nil]
  after_reads_simp
  first | done | rfl

end Cert.Experts

end
-- ==== Proof.Experts.Tables.lean ====
/- The tables read at an index, for counts within their range: they are the numbers of the layout, and so the plan that the steps follow. -/
module

public import proofs.«01_k».proof.Proof.Experts.Lines

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Routing Idealize.ShloMosaic.WordCmp Idealize.ShloMosaic.ValueIdx

variable (m : (ℓ : Loc nD τ sig) → Buf (Elt F) ℓ) (c : Dev nD) (C : Counts)

/-- Of two bits of which one is set the sum is. -/
theorem bit_or : ∀ b : BitVec 1, (IntOp.andi (BitVec.ofBool true) (IntOp.ori (BitVec.ofBool true) b)).setWidth 32 = 1#32 := by decide

/-- The counts that the program is given. -/
abbrev Given : Prop := Holds (n := 64) (m ((c.tc : Thread nD τ).loc main_arg0)) C.c

variable (h : Given m c C)
include h

theorem blocks_at : Holds (n := 64) (V m c main_v6) C.pad := by
  rw [line_blocks, line_quot, line_up, line_c1]
  exact blocks_holds bcast_S_S64 _ C.c h fun i hi => C.c_le hi

theorem ends_at : Holds (n := 64) (V m c main_v7) C.ends := by
  intro i
  rw [line_ends]
  exact cumsum1 (N := 64) (Nm1 := 63) rfl _ C.pad (blocks_at m c C h) _ (bc0 _ _ _) _ _ i

theorem used_at : V m c main_v10 ix0 = BitVec.ofNat 32 C.used := by
  have h1 : V m c main_v9 ix0 = BitVec.ofNat 32 (C.ends 63) := by
    rw [line_last]
    exact (last_at _ _ _).trans (ends_at m c C h 63)
  have h2 := C.ends_le (show 63 < 64 by omega)
  rw [line_used, line_c3]
  exact div_scalar _ h1 (by omega)

theorem block_at : Holds (n := 320) (V m c main_v14) (fun t => min t (C.used - 1)) := by
  intro t
  have h1 := C.used_le
  have h2 := C.used_pos
  rw [line_block]
  show IntOp.minsi (BitVec.ofNat 32 t.val) (broadcastInDim S320 ![] bcast_S_S320 (subi (V m c main_v10) (constantI S_ 32 1#32)) (ix1 t)) = _
  rw [bc0, subi_ap, used_at m c C h, constantI_at, show (1#32 : BitVec 32) = BitVec.ofNat 32 1 from rfl, ofNat32_sub h2]
  exact minsi_word (by have := t.isLt; omega) (by omega)

theorem expert_at : Holds (n := 320) (V m c main_v25) C.ex := by
  have h1 := C.used_le
  rw [line_expert]
  refine owner_holds (n := 320) bcast_S_S320 C _ _ _ _ _ _ _ _ _ (fun t => min t (C.used - 1) * 512) (ends_at m c C h) (fun t => ?_) fun i hi => by
    show min i (C.used - 1) * 512 < 2 ^ 31
    omega
  rw [muli_ap, fill_at, block_at m c C h t]
  exact muli_ofNat (w := 32) _ 512

theorem before_at (t : Fin 320) (h0 : 0 < t.val) : V m c main_v31 (ix1 t) = BitVec.ofNat 32 (C.ex (t.val - 1)) := by
  have ht := t.isLt
  rw [line_before]
  have hp : t.val - 1 < 319 := by omega
  refine (concatenate_pair_apply_right (t := S320) (s₁ := S1) (s₂ := S319) 0 _ _ concatenates_S1_S319_S320_d0 (ix1 t) rfl rfl (ix1 (⟨t.val - 1, hp⟩ : Fin 319)) (fun b hb => ?_) ?_).trans
    ((slice1 0 _ slices_S320_S319_0 (⟨t.val - 1, hp⟩ : Fin 319) (by show 0 + (t.val - 1) < 320; omega)).trans ?_)
  · exact absurd (Subsingleton.elim (α := Fin 1) b 0) (fun hb' => hb (by rw [hb']; rfl))
  · show t.val - 1 + 1 = t.val
    omega
  · rw [expert_at m c C h]
    show BitVec.ofNat 32 (C.ex (0 + (t.val - 1))) = _
    rw [Nat.zero_add]

theorem first_at (t : Fin 320) : V m c main_v35 (ix1 t) = if C.isFirst t.val then 1#32 else 0#32 := by
  have h1 := C.used_le
  have h2 := C.used_pos
  have ht := t.isLt
  have hx := C.ex_lt t.val
  have hy := C.ex_lt (t.val - 1)
  have e0 : cmpi .slt (iotaInDim S320 32 0) (broadcastInDim S320 ![] bcast_S_S320 (V m c main_v10)) (ix1 t) = BitVec.ofBool (decide (t.val < C.used)) := by
    rw [cmpi_at, iota1_ap, bc0, used_at m c C h]
    exact cmpi_slt_ofNat (w := 32) (by show t.val < 2 ^ 31; omega) (by show C.used < 2 ^ 31; omega)
  have e1 : cmpi .eq (iotaInDim S320 32 0) (fill bcast_S_S320 0#32) (ix1 t) = BitVec.ofBool (decide (t.val = 0)) := by
    rw [cmpi_at, iota1_ap, fill_at]
    exact cmpi_eq_ofNat (w := 32) (a := t.val) (b := 0) (by omega) (by omega)
  rw [line_first, line_inuse, line_zero, extui_at, andi_at, ori_at, e0, e1]
  by_cases h0 : t.val = 0
  · have hf : C.isFirst t.val := ⟨by omega, Or.inl h0⟩
    rw [if_pos hf, decide_eq_true h0, decide_eq_true hf.1]
    generalize cmpi .ne (V m c main_v25) (V m c main_v31) (ix1 t) = b
    exact bit_or b
  · have e2 : cmpi .ne (V m c main_v25) (V m c main_v31) (ix1 t) = BitVec.ofBool (decide (C.ex t.val ≠ C.ex (t.val - 1))) := by
      rw [cmpi_at, expert_at m c C h t, before_at m c C h t (by omega)]
      exact cmpi_ne_ofNat (w := 32) (by omega) (by omega)
    rw [e2, ori_ofBool, andi_ofBool, ← Bool.decide_or, ← Bool.decide_and, widen_word]
    exact if_congr (by unfold Counts.isFirst; exact Iff.rfl) rfl rfl

theorem begun_at : Holds (n := 320) (V m c main_v36) C.begun := by
  intro t
  rw [line_begun]
  refine cumsum1 (N := 320) (Nm1 := 319) rfl _ (fun u => if C.isFirst u then 1 else 0) (fun i => ?_) _ (bc0 _ _ _) _ _ t
  rw [first_at m c C h i]
  by_cases hf : C.isFirst i.val
  · rw [if_pos hf, if_pos hf]
  · rw [if_neg hf, if_neg hf]

theorem slot_at : Holds (n := 320) (V m c main_v39) C.sl := by
  intro t
  have h1 := C.begun_pos t.val
  have h2 := C.begun_le t.val
  have ht := t.isLt
  have e : V m c main_v38 (ix1 t) = BitVec.ofNat 32 (C.begun t.val - 1) := by
    rw [line_less, subi_ap, fill_at, begun_at m c C h t]
    exact ofNat32_sub (b := 1) h1
  rw [line_slot, line_c10]
  exact pyRem_ap (s := S320) bcast_S_S320 _ _ _ (b := 2) e rfl (by omega) (by omega) (by omega)

theorem end_at : Holds (n := 320) (V m c main_v46) (fun t => C.ends (C.ex t)) := by
  intro t
  rw [line_end]
  refine (gather_take1 gather_S64_S320x1_S320_n_0_n_n_0_1_1 rfl rfl rfl rfl (V m c main_v7) _ t (⟨C.ex t.val, C.ex_lt _⟩ : Fin 64) ?_ (by decide)).trans (ends_at m c C h _)
  rw [bcCol]
  exact wrap_holds (n := 320) bcast_S_S320 64#32 _ C.ex (expert_at m c C h) (fun i _ => by have := C.ex_lt i; omega) t

theorem stop_at : Holds (n := 320) (V m c main_v47) C.stop := by
  intro t
  have h1 := C.ends_le (C.ex_lt t.val)
  rw [line_stop, line_c13]
  exact pyDiv_ap (s := S320) bcast_S_S320 _ _ _ (b := 512) (end_at m c C h t) rfl (by omega) (by omega) (by omega)

theorem more_at (t : Fin 320) : V m c main_v50 (ix1 t) = if C.stop t.val < C.used then 1#32 else 0#32 := by
  have h1 := C.used_le
  have h2 := C.stop_le t.val
  rw [line_more, extui_at, cmpi_at, bc0, stop_at m c C h t, used_at m c C h,
    cmpi_slt_ofNat (w := 32) (by show C.stop t.val < 2 ^ 31; omega) (by show C.used < 2 ^ 31; omega), widen_word]

theorem at_at : Holds (n := 320) (V m c main_v52) (fun t => min (C.stop t) 319) := by
  intro t
  have h1 := C.used_le
  have h2 := C.stop_le t.val
  rw [line_at]
  show IntOp.minsi (V m c main_v47 (ix1 t)) (fill bcast_S_S320 319#32 (ix1 t)) = _
  rw [fill_at, stop_at m c C h t]
  exact minsi_word (b := 319) (by omega) (by omega)

theorem next_at : Holds (n := 320) (V m c main_v59) (fun t => C.ex (min (C.stop t) 319)) := by
  intro t
  rw [line_next]
  refine (gather_take1 gather_S320_S320x1_S320_n_0_n_n_0_1_1 rfl rfl rfl rfl (V m c main_v25) _ t (⟨min (C.stop t.val) 319, by omega⟩ : Fin 320) ?_ (by decide)).trans (expert_at m c C h _)
  rw [bcCol]
  exact wrap_holds (n := 320) bcast_S_S320 320#32 _ _ (at_at m c C h) (fun i _ => by show min (C.stop i) 319 < 2 ^ 31; omega) t

theorem count_at (j : S1.Idx) : V m c main_v60 j = BitVec.ofNat 32 C.used := by
  rw [line_count]
  exact (one_at _ _ j).trans (used_at m c C h)

omit h in
theorem first_entry (t : Fin 320) : entry tbFirst (tbl m 2) t = V m 0 main_v35 (ix1 t) := rfl

omit h in
theorem begins (h : Given m 0 C) {t : Fin 320} (ht : C.isFirst t.val) : entry tbFirst (tbl m 2) t = 1#32 := by
  rw [first_entry, first_at m 0 C h t, if_pos ht]

omit h in
theorem goes_on (h : Given m 0 C) {t : Fin 320} (ht : ¬ C.isFirst t.val) : entry tbFirst (tbl m 2) t = 0#32 := by
  rw [first_entry, first_at m 0 C h t, if_neg ht]

omit h in
set_option maxHeartbeats 4000000 in
/-- The counts give the plan of the steps. -/
def plan (h : Given m 0 C) : Plan (tbl m) where
  N := C.used
  pos := C.used_pos
  le := by have := C.used_le; omega
  ex t := ⟨C.ex t, C.ex_lt t⟩
  stop := C.stop
  sl t := ⟨C.sl t, C.sl_lt t⟩
  nvb := count_at m 0 C h
  blk := block_at m 0 C h
  start := ⟨begins m C h ⟨C.used_pos, Or.inl rfl⟩, Fin.ext C.sl_zero⟩
  past t ht := goes_on m C h fun hf => absurd hf.1 (Nat.not_lt.2 ht)
  eid t _ := expert_at m 0 C h t
  slot t _ := slot_at m 0 C h t
  lt_stop t ht := C.lt_stop ht
  stop_le t _ := C.stop_le t
  more t _ := more_at m 0 C h t
  nxt t _ ht := (next_at m 0 C h t).trans (by
    show BitVec.ofNat 32 (C.ex (min (C.stop t.val) 319)) = BitVec.ofNat 32 (C.ex (C.stop t.val))
    rw [Nat.min_eq_left (by have := C.used_le; omega)])
  step t h0 ht := by
    rcases C.step h0 ht with ⟨hf, hs, hl⟩ | ⟨⟨hf, he⟩, hs, hl⟩
    · refine Or.inl ⟨begins m C h hf, hs, Fin.ext ?_⟩
      have := C.sl_lt (t.val - 1)
      rw [Fin.sub_def]
      show C.sl t.val = (2 - C.sl (t.val - 1) + 1) % 2
      omega
    · exact Or.inr ⟨goes_on m C h hf, Fin.ext he, hs, Fin.ext hl⟩

end Cert.Experts

end
-- ==== Proof.Experts.Range.lean ====
/- The precondition, read off: the counts are numbers of rows, at least one and at most 131072 in all. -/
module

public import proofs.«01_k».proof.Proof.Experts.Words
public import proofs.«01_k».proof.Proof.Gen.Pre_rows_in_bounds

@[expose] public section

noncomputable section

namespace Cert.Experts

open Idealize.ShloMosaic Idealize.ShloMosaic.ValueIdx Idealize.ShloMosaic.Routing Idealize.ShloMosaic.WordCmp
open Cert.Pre_rows_in_bounds Cert.Pre_rows_in_bounds.Gen

theorem both_bits : ∀ a b : BitVec 1, IntOp.andi a b = 1#1 → a = 1#1 ∧ b = 1#1 := by decide

/-- A word between zero and a number, read signed, is a number of that size. -/
theorem word_range (x : BitVec 32) (h0 : IntOp.cmpi .sge x 0#32 = 1#1) (h1 : IntOp.cmpi .sle x 131072#32 = 1#1) : x.toNat ≤ 131072 := by
  rw [cmpi_sge_zero, ofBool_eq_one_iff, decide_eq_true_eq] at h0
  have e : x = BitVec.ofNat 32 x.toNat := BitVec.eq_of_toNat_eq (by simp)
  rw [e, cmpi_sle_ofNat_eq_one_iff (w := 32) h0 (by decide)] at h1
  exact h1

/-- The counts as plain numbers. -/
def asNat (x : IVec (shape1 64) 32) (j : ℕ) : ℕ := if h : j < 64 then (x (ix1 (⟨j, h⟩ : Fin 64))).toNat else 0

theorem asNat_holds (x : IVec (shape1 64) 32) : Holds (n := 64) x (asNat x) := by
  intro i
  unfold asNat
  rw [dif_pos i.isLt]
  exact BitVec.eq_of_toNat_eq (by simp)

/-- A sum of numbers each at most `b`. -/
theorem sum_bound (f : ℕ → ℕ) (b : ℕ) (n : ℕ) (h : ∀ i < n, f i ≤ b) : ((List.range n).map f).sum ≤ n * b := by
  induction n with
  | zero => simp
  | succ n ih =>
    rw [List.range_succ, List.map_append, List.sum_append, List.map_singleton, List.sum_singleton]
    have h1 := ih fun i hi => h i (by omega)
    have h2 := h n (by omega)
    have h3 : (n + 1) * b = n * b + b := Nat.succ_mul n b
    omega

variable {F : FTy → Type} [FloatOps F]

/-- What the precondition says of the counts. -/
theorem range_of_pre (x : IVec S64 32) (a1 : FVec F S163840x2048 .bf16) (a2 a3 : FVec F S64x2048x512 .f32) (a4 : FVec F S64x512x2048 .f32)
    (h : Cert.Pre_rows_in_bounds.fn (F := F) x a1 a2 a3 a4 = fun _ => 1#1) : ∃ C : Counts, Holds (n := 64) x C.c := by
  have hj : ∀ j : Fin 64, (IntOp.cmpi .sge (x (ix1 j)) 0#32 = 1#1 ∧ IntOp.cmpi .sle (x (ix1 j)) 131072#32 = 1#1)
      ∧ IntOp.cmpi .sge (Host.reduce IntOp.addi x (constantI S_ 32 0#32) reducesTo_S64_S_d0 h_S_ ix0) 1#32 = 1#1
      ∧ IntOp.cmpi .sle (Host.reduce IntOp.addi x (constantI S_ 32 0#32) reducesTo_S64_S_d0 h_S_ ix0) 131072#32 = 1#1 := by
    intro j
    have hc := congrFun h (ix1 j)
    unfold Cert.Pre_rows_in_bounds.fn at hc
    simp only [andi_at, cmpi_at, bc0, constantI_at] at hc
    obtain ⟨h1, h2⟩ := both_bits _ _ hc
    obtain ⟨h3, h4⟩ := both_bits _ _ h1
    obtain ⟨h5, h6⟩ := both_bits _ _ h3
    exact ⟨⟨h5, h6⟩, h4, h2⟩
  have hle : ∀ i < 64, asNat x i ≤ 131072 := fun i hi => by
    unfold asNat
    rw [dif_pos hi]
    exact word_range _ (hj ⟨i, hi⟩).1.1 (hj ⟨i, hi⟩).1.2
  have hb := sum_bound (asNat x) 131072 64 hle
  obtain ⟨-, h1, h2⟩ := hj 0
  rw [reduce_sum x (asNat x) (asNat_holds x)] at h1 h2
  rw [show (1#32 : BitVec 32) = BitVec.ofNat 32 1 from rfl, cmpi_sge_ofNat_eq_one_iff (w := 32) (by show _ < 2 ^ 31; omega) (by decide)] at h1
  rw [show (131072#32 : BitVec 32) = BitVec.ofNat 32 131072 from rfl, cmpi_sle_ofNat_eq_one_iff (w := 32) (by show _ < 2 ^ 31; omega) (by decide)] at h2
  exact ⟨⟨asNat x, h1, h2⟩, asNat_holds x⟩

end Cert.Experts

end
-- ==== Proof.Experts.RunFirst.lean ====
/- The routed experts' kernel run at the first block of an expert: its weights land, the next expert's copies start. -/
module

public import proofs.«01_k».proof.Proof.Experts.Runs

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (Wg : BufOf (F := F) c hbGate) (Wu : BufOf (F := F) c hbUp) (Wd : BufOf (F := F) c hbDown)

/-- Slot `s`'s three windows at anything. -/
abbrev slotAny (s : ℕ) (hs : s < 2) : sProp 𝕄 :=
  iprop((∃ f, window c (gateSlot s hs) f) ∗ (∃ f, window c (upSlot s hs) f) ∗ (∃ f, window c (downSlot s hs) f))

/-- Expert `e`'s three matrices where they lie, held at a share. -/
abbrev sources (q : PosShare TreeShare) (e : ℕ) (he : e < 64) : sProp 𝕄 :=
  iprop(part c q (gateOf e he) Wg ∗ part c q (upOf e he) Wu ∗ part c q (downOf e he) Wd)

/-- Slot `s` about to be filled with expert `e`'s weights. -/
abbrev ready (s : ℕ) (hs : s < 2) (e : ℕ) (he : e < 64) : sProp 𝕄 :=
  iprop(flying c Wg Wu Wd s hs e he 0 ∗ slotAny c s hs ∗ sources c Wg Wu Wd (shareOf s) e he)

/-- Slot `s` after its weights have been used. -/
abbrev used (s : ℕ) (hs : s < 2) (e : ℕ) (he : e < 64) : sProp 𝕄 :=
  iprop(semVal ((c : Thread nD τ), cell s) 0 ∗ slotAny c s hs ∗ sources c Wg Wu Wd (shareOf s) e he)

set_option maxHeartbeats 2000000 in
set_option sl_exec.closedPieces true in set_option sl_exec.dmaWindow true in set_option sl_exec.dmaWindowSet true in
/-- The first block of an expert, its weights in slot `s`: the copies into that slot are in flight (`hR`, or, at the first
    grid point, started here) and end here; where there is a next expert, the copies into the other slot start (`hQ`). -/
theorem run_first (i : grid0.Coords) (arg8 : Memref sig .tc .vmem S512x2048 .bf16) (h8 : arg8.IsWhole) (arg12 : Memref sig .tc .vmem S512x2048 .bf16)
    (h12 : arg12.IsWhole) (x : Vec F S512x2048 .bf16) (T : pre0.Contents (Elt F)) (k e : BitVec 32) (he : e.toNat < 64)
    (hk : tbNvb.view.readAt (Elt F) (Rect.unit (s := S1) ![0] S1.size inb_S1_S1_0).toLoadRect (T 6) = fun _ => k)
    (s s' : ℕ) (hs : s < 2) (hs' : s' < 2) (hss : (s = 0 ∧ s' = 1) ∨ (s = 1 ∧ s' = 0)) (R Q Q' : sProp 𝕄)
    (hfirst : word tbFirst (T 2) i = 1#32) (hslot : word tbSlot (T 3) i = BitVec.ofNat 32 s) (heid : word tbEid (T 1) i = e)
    (hR : (k0_cond1 i = 1#1 ∧ (![0] : Fin 1 → ℕ) = k0_off1 i ∧ s = 0 ∧ R = ready c Wg Wu Wd s hs e.toNat he)
      ∨ (¬ k0_cond1 i = 1#1 ∧ R = flying c Wg Wu Wd s hs e.toNat he 3))
    (hQ : (word tbMore (T 5) i = 1#32 ∧ ∃ (n : BitVec 32) (hn : n.toNat < 64), word tbNxt (T 4) i = n
          ∧ Q = ready c Wg Wu Wd s' hs' n.toNat hn ∧ Q' = flying c Wg Wu Wd s' hs' n.toNat hn 3)
      ∨ (word tbMore (T 5) i = 0#32 ∧ Q' = Q))
    (hc5 : ¬ k0_cond5 i 1#32 k = 1#1) (hc6 : ¬ k0_cond6 i k = 1#1) (W : Waits sig Unit) (K : PUnit → sProp 𝕄) :
    iprop(owns (c : Thread nD τ) arg8 fullShare x ∗ (∃ y, owns (c : Thread nD τ) arg12 fullShare y) ∗ tables c T
        ∗ (∃ g, owns (c : Thread nD τ) inGate fullShare g) ∗ (∃ g, owns (c : Thread nD τ) inUp fullShare g) ∗ (∃ g, owns (c : Thread nD τ) inDown fullShare g)
        ∗ R ∗ Q ∗ owes (c : Thread nD τ) 0 W
        ∗ (iprop(owns (c : Thread nD τ) arg8 fullShare x
          ∗ owns (c : Thread nD τ) arg12 fullShare (outFirst x (k0_pay4 (gateW e.toNat he Wg)) (k0_pay5 (gateW e.toNat he Wu)) (k0_pay6 (downW e.toNat he Wd)))
          ∗ tables c T ∗ owns (c : Thread nD τ) inGate fullShare (k0_pay4 (gateW e.toNat he Wg)) ∗ owns (c : Thread nD τ) inUp fullShare (k0_pay5 (gateW e.toNat he Wu))
          ∗ owns (c : Thread nD τ) inDown fullShare (k0_pay6 (downW e.toNat he Wd)) ∗ used c Wg Wu Wd s hs e.toNat he ∗ Q'
          ∗ (∃ W', owes (c : Thread nD τ) 0 W')) -∗ K ⟨⟩))
      ⊢ wp frame (wpE (defs₀ (F := F)) Variants.none c none) Set.univ (body i arg8 h8 arg12 h12) K := by
  have hf1 := word_read tbFirst (T 2) i hfirst rfl (k0_off1_inb i)
  have hf21 := word_read tbFirst (T 2) i hfirst (o := k0_off21 i) rfl (k0_off21_inb i)
  have hf25 := word_read tbFirst (T 2) i hfirst (o := k0_off25 i) rfl (k0_off25_inb i)
  have hs4 := word_read tbSlot (T 3) i hslot (o := k0_off4 i) rfl (k0_off4_inb i)
  have hs22 := word_read tbSlot (T 3) i hslot (o := k0_off22 i) rfl (k0_off22_inb i)
  have he4 := word_read tbEid (T 1) i heid (o := k0_off4 i) rfl (k0_off4_inb i)
  have hk1 : k0_chk1 i e := ⟨fun _ => inb_of e.toNat he, fun _ => inb_ofDown e.toNat he⟩
  have hk3 : k0_chk3 1#32 e := ⟨fun _ => inb_of e.toNat he, fun _ => inb_ofDown e.toNat he⟩
  unfold body
  simp only [cc0__expert_kernel_eq_skeleton]; unfold cc0__expert_kernel_skel
  simp only [k0_part1_eq_skeleton]
  unfold owns
  iintro ⟨⟨%f0, %hf0, H0⟩, ⟨%y, %f1, -, H1⟩, ⟨HT0, HT1, HT2, HT3, HT4, HT5, HT6⟩, ⟨%g2, %f2, -, H2⟩, ⟨%g3, %f3, -, H3⟩, ⟨%g4, %f4, -, H4⟩, HR, HQ, HW, Hk⟩
  obtain rfl := h8.eq_unread hf0
  rcases hR with ⟨hc1, ho, hs0, rfl⟩ | ⟨hc1, rfl⟩
  case' inl =>
    icases HR with ⟨HR, ⟨⟨%p0, HP0⟩, ⟨%p1, HP1⟩, ⟨%p2, HP2⟩⟩, HP3, HP4, HP5⟩
    have he1 := word_read tbEid (T 1) i heid ho inb_S320_S1_0
  all_goals rcases hQ with ⟨hm, n, hn, hx, rfl, rfl⟩ | ⟨hm, rfl⟩
  case' inl.inl | inr.inl =>
    icases HQ with ⟨HQ, ⟨⟨%q0, HQ0⟩, ⟨%q1, HQ1⟩, ⟨%q2, HQ2⟩⟩, HQ3, HQ4, HQ5⟩
    have hx13 := word_read tbNxt (T 4) i hx (o := k0_off13 i) rfl (k0_off13_inb i)
    have hk5 : k0_chk5 1#32 1#32 n := ⟨fun _ _ => inb_of n.toNat hn, fun _ _ => inb_ofDown n.toNat hn⟩
  all_goals
    have hm12 := word_read tbMore (T 5) i hm (o := k0_off12 i) rfl (k0_off12_inb i)
    rcases hss with ⟨rfl, rfl⟩ | ⟨rfl, rfl⟩
  case inl.inl.inr | inl.inr.inr => cases hs0
  all_goals
    sl_exec (disch := first | sl_exact hc1 | sl_exact hc5 | sl_exact hc6 | sl_exact hk1 | sl_exact hk3 | sl_exact hk5)
  all_goals
    sl_step
    iapply Hk
    isplitl [H0]
    · iexists _; isplitr; · ipureintro; exact h8.read_unread _
      iexact H0
    isplitl [H1]
    · iexists _; isplitr; swap; · iexact H1
      ipureintro; exact (View.read_writes_full _ _ _ _ _).trans (outFirst_eq c _ hs e.toNat he h8 x Wg Wu Wd)
    isplitl [HT0 HT1 HT2 HT3 HT4 HT5 HT6]
    · isplitl [HT0]; · iexact HT0
      isplitl [HT1]; · iexact HT1
      isplitl [HT2]; · iexact HT2
      isplitl [HT3]; · iexact HT3
      isplitl [HT4]; · iexact HT4
      isplitl [HT5]; · iexact HT5
      iexact HT6
    isplitl [H2]
    · iexists _; isplitr; · ipureintro; exact stored_gate c _ hs e.toNat he f2 Wg
      iexact H2
    isplitl [H3]
    · iexists _; isplitr; · ipureintro; exact stored_up c _ hs e.toNat he f3 Wu
      iexact H3
    isplitl [H4]
    · iexists _; isplitr; · ipureintro; exact stored_down c _ hs e.toNat he f4 Wd
      iexact H4
    isplitl [HR HR_dst0 HR_dst1 HR_dst2 HR_src0 HR_src1 HR_src2]
    · isplitl [HR]; · iexact HR
      isplitl [HR_dst0 HR_dst1 HR_dst2]
      · isplitl [HR_dst0]; · iexists _; iexact HR_dst0
        isplitl [HR_dst1]; · iexists _; iexact HR_dst1
        iexists _; iexact HR_dst2
      isplitl [HR_src0]; · iexact HR_src0
      isplitl [HR_src1]; · iexact HR_src1
      iexact HR_src2
    isplitl [HQ]; · iexact HQ
    iexists _; iexact HW

end Cert.Experts

end
-- ==== Proof.Experts.Slots.lean ====
/- The two slots of weights between grid points: a slot lies free, with half of the three weight arrays beside it, or its three
   copies are in flight and hold what they read. -/
module

public import proofs.«01_k».proof.Proof.Experts.RunFirst

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Splitting and joining -/

section Split

variable {ℓ : Loc nD τ sig}

/-- A buffer held whole, as two parts of it that do not meet and the remainder. -/
theorem split_two (f : Buf (Elt F) ℓ) {I J : Finset ℓ.2.ty.shape.Idx} (h : Disjoint I J) :
    (ℓ ↦{fullShare} f : sProp 𝕄) ⊢ iprop((ℓ ↦[I]{fullShare} f) ∗ (ℓ ↦[J]{fullShare} f) ∗ (ℓ ↦[(Finset.univ \ I) \ J]{fullShare} f)) := by
  have hJ : J ⊆ Finset.univ \ I := fun j hj => Finset.mem_sdiff.mpr ⟨Finset.mem_univ _, fun hi => Finset.disjoint_left.mp h hi hj⟩
  refine (pointsTo_split_subset (Finset.subset_univ I)).1.trans ?_
  iintro ⟨H1, H2⟩
  isplitl [H1]; · iexact H1
  iapply ((pointsTo_split_subset hJ).1); iexact H2

/-- The parts put back together, whatever they hold. -/
theorem join_two {I J : Finset ℓ.2.ty.shape.Idx} (h : Disjoint I J) :
    iprop((∃ f : Buf (Elt F) ℓ, ℓ ↦[I]{fullShare} f) ∗ (∃ f : Buf (Elt F) ℓ, ℓ ↦[J]{fullShare} f) ∗ (∃ f : Buf (Elt F) ℓ, ℓ ↦[(Finset.univ \ I) \ J]{fullShare} f))
      ⊢ (iprop(∃ f : Buf (Elt F) ℓ, ℓ ↦{fullShare} f) : sProp 𝕄) := by
  have hJ : J ⊆ Finset.univ \ I := fun j hj => Finset.mem_sdiff.mpr ⟨Finset.mem_univ _, fun hi => Finset.disjoint_left.mp h hi hj⟩
  iintro ⟨⟨%f, H1⟩, ⟨%g, H2⟩, ⟨%k, H3⟩⟩
  ihave H := (pointsTo_join_subset hJ) $$ [H2 H3]
  · isplitl [H2]; · iexact H2
    iexact H3
  ihave H' := (pointsTo_join_subset (Finset.subset_univ I)) $$ [H1 H]
  · isplitl [H1]; · iexact H1
    iexact H
  iexists _; iexact H'

end Split

theorem gate_set (s : ℕ) (hs : s < 2) : ((gateSlot s hs).view.set : Finset S2x2048x512.Idx) = (Rect.unit (s := S2x2048x512) ![s, 0, 0] S1x2048x512.size (inb_slot s hs)).set :=
  (View.set_reshape _ _).trans (View.set_slice_whole _ _)
theorem gate_disjoint : Disjoint (α := Finset S2x2048x512.Idx) (gateSlot 0 Nat.zero_lt_two).view.set (gateSlot 1 Nat.one_lt_two).view.set := by
  rw [gate_set, gate_set]
  exact Rect.unit_disjoint 0 (Or.inl (Nat.le_refl 1))
theorem up_set (s : ℕ) (hs : s < 2) : ((upSlot s hs).view.set : Finset S2x2048x512.Idx) = (Rect.unit (s := S2x2048x512) ![s, 0, 0] S1x2048x512.size (inb_slot s hs)).set :=
  (View.set_reshape _ _).trans (View.set_slice_whole _ _)
theorem up_disjoint : Disjoint (α := Finset S2x2048x512.Idx) (upSlot 0 Nat.zero_lt_two).view.set (upSlot 1 Nat.one_lt_two).view.set := by
  rw [up_set, up_set]
  exact Rect.unit_disjoint 0 (Or.inl (Nat.le_refl 1))
theorem down_set (s : ℕ) (hs : s < 2) : ((downSlot s hs).view.set : Finset S2x512x2048.Idx) = (Rect.unit (s := S2x512x2048) ![s, 0, 0] S1x512x2048.size (inb_slotDown s hs)).set :=
  (View.set_reshape _ _).trans (View.set_slice_whole _ _)
theorem down_disjoint : Disjoint (α := Finset S2x512x2048.Idx) (downSlot 0 Nat.zero_lt_two).view.set (downSlot 1 Nat.one_lt_two).view.set := by
  rw [down_set, down_set]
  exact Rect.unit_disjoint 0 (Or.inl (Nat.le_refl 1))

variable (c : Dev nD) (Wg : BufOf (F := F) c hbGate) (Wu : BufOf (F := F) c hbUp) (Wd : BufOf (F := F) c hbDown)

/-! ## The three weight arrays -/

/-- The weight arrays held at a share. -/
abbrev arrays (q : PosShare TreeShare) : sProp 𝕄 :=
  iprop((hbGate.view.loc (c : Thread nD τ) ↦{q} Wg) ∗ (hbUp.view.loc (c : Thread nD τ) ↦{q} Wu) ∗ (hbDown.view.loc (c : Thread nD τ) ↦{q} Wd))

/-- The weight arrays but for expert `e`'s matrices. -/
abbrev others (q : PosShare TreeShare) (e : ℕ) (he : e < 64) : sProp 𝕄 :=
  iprop((hbGate.view.loc (c : Thread nD τ) ↦[Finset.univ \ (gateOf e he).view.set]{q} Wg)
    ∗ (hbUp.view.loc (c : Thread nD τ) ↦[Finset.univ \ (upOf e he).view.set]{q} Wu)
    ∗ (hbDown.view.loc (c : Thread nD τ) ↦[Finset.univ \ (downOf e he).view.set]{q} Wd))

theorem carve (q : PosShare TreeShare) (e : ℕ) (he : e < 64) : arrays c Wg Wu Wd q ⊢ iprop(sources c Wg Wu Wd q e he ∗ others c Wg Wu Wd q e he) := by
  iintro ⟨H1, H2, H3⟩
  ihave H1 := ((pointsTo_split_subset (Finset.subset_univ (gateOf e he).view.set)).1) $$ H1
  ihave H2 := ((pointsTo_split_subset (Finset.subset_univ (upOf e he).view.set)).1) $$ H2
  ihave H3 := ((pointsTo_split_subset (Finset.subset_univ (downOf e he).view.set)).1) $$ H3
  icases H1 with ⟨H1, K1⟩
  icases H2 with ⟨H2, K2⟩
  icases H3 with ⟨H3, K3⟩
  isplitl [H1 H2 H3]
  · isplitl [H1]; · iexact H1
    isplitl [H2]; · iexact H2
    iexact H3
  isplitl [K1]; · iexact K1
  isplitl [K2]; · iexact K2
  iexact K3

theorem uncarve (q : PosShare TreeShare) (e : ℕ) (he : e < 64) : iprop(sources c Wg Wu Wd q e he ∗ others c Wg Wu Wd q e he) ⊢ arrays c Wg Wu Wd q := by
  iintro ⟨⟨H1, H2, H3⟩, K1, K2, K3⟩
  isplitl [H1 K1]
  · iapply ((pointsTo_split_subset (Finset.subset_univ (gateOf e he).view.set)).2); isplitl [H1]; · iexact H1
    iexact K1
  isplitl [H2 K2]
  · iapply ((pointsTo_split_subset (Finset.subset_univ (upOf e he).view.set)).2); isplitl [H2]; · iexact H2
    iexact K2
  iapply ((pointsTo_split_subset (Finset.subset_univ (downOf e he).view.set)).2); isplitl [H3]; · iexact H3
  iexact K3

/-! ## The slots -/

/-- Slot `s` free, and slot `s` with expert `e` on its way into it. -/
def free (s : Fin 2) : sProp 𝕄 := iprop(semVal ((c : Thread nD τ), cell s) 0 ∗ slotAny c s.val s.isLt ∗ arrays c Wg Wu Wd (shareOf s))
def busy (s : Fin 2) (e : Fin 64) : sProp 𝕄 :=
  iprop(flying c Wg Wu Wd s.val s.isLt e.val e.isLt 3 ∗ others c Wg Wu Wd (shareOf s) e.val e.isLt)

/-- The weights in use are expert `e`'s. -/
def inUse (e : Fin 64) : sProp 𝕄 :=
  iprop(owns (c : Thread nD τ) inGate fullShare (k0_pay4 (gateW e.val e.isLt Wg)) ∗ owns (c : Thread nD τ) inUp fullShare (k0_pay5 (gateW e.val e.isLt Wu))
    ∗ owns (c : Thread nD τ) inDown fullShare (k0_pay6 (downW e.val e.isLt Wd)))
/-- The weights in use are anything. -/
def inAny : sProp 𝕄 :=
  iprop((∃ g, owns (c : Thread nD τ) inGate fullShare g) ∗ (∃ g, owns (c : Thread nD τ) inUp fullShare g) ∗ (∃ g, owns (c : Thread nD τ) inDown fullShare g))

theorem inUse_any (e : Fin 64) : inUse c Wg Wu Wd e ⊢ inAny (F := F) c := by
  unfold inUse inAny
  iintro ⟨H1, H2, H3⟩
  isplitl [H1]; · iexists _; iexact H1
  isplitl [H2]; · iexists _; iexact H2
  iexists _; iexact H3

/-- What a block computes from its rows with expert `e`'s weights, at the expert's first block and at its later ones. -/
def firstOut (x : Vec F S512x2048 .bf16) (e : Fin 64) : Vec F S512x2048 .bf16 :=
  outFirst x (k0_pay4 (gateW e.val e.isLt Wg)) (k0_pay5 (gateW e.val e.isLt Wu)) (k0_pay6 (downW e.val e.isLt Wd))
def laterOut (x : Vec F S512x2048 .bf16) (e : Fin 64) : Vec F S512x2048 .bf16 :=
  outLater x (k0_pay4 (gateW e.val e.isLt Wg)) (k0_pay5 (gateW e.val e.isLt Wu)) (k0_pay6 (downW e.val e.isLt Wd))

/-- A free slot is ready to be filled with any expert. -/
theorem free_ready (s : Fin 2) (e : Fin 64) : free c Wg Wu Wd s
    ⊢ |={Set.univ}=> iprop(ready c Wg Wu Wd s.val s.isLt e.val e.isLt ∗ others c Wg Wu Wd (shareOf s) e.val e.isLt) := by
  unfold free
  iintro ⟨Hq, HA, HB⟩
  ihave HB := (carve c Wg Wu Wd (shareOf s) e.val e.isLt) $$ HB
  icases HB with ⟨HB, HC⟩
  imod (Transfers.batch_alloc' (Lvl := ℕ) (countersEmb (U := Pipeline.UD sig nD τ)) (c : Thread nD τ) () credit (deliv c Wg Wu Wd s.val s.isLt e.val e.isLt) (sm := cell s) (E := Set.univ)) $$ Hq with HQ
  imodintro
  isplitr [HC]
  · isplitl [HQ]; · iexact HQ
    isplitl [HA]; · iexact HA
    iexact HB
  iexact HC

/-- A used slot is free again. -/
theorem used_free (s : Fin 2) (e : Fin 64) : iprop(used c Wg Wu Wd s.val s.isLt e.val e.isLt ∗ others c Wg Wu Wd (shareOf s) e.val e.isLt) ⊢ free c Wg Wu Wd s := by
  unfold free
  iintro ⟨⟨Hq, HA, HB⟩, HC⟩
  isplitl [Hq]; · iexact Hq
  isplitl [HA]; · iexact HA
  iapply (uncarve c Wg Wu Wd (shareOf s) e.val e.isLt)
  isplitl [HB]; · iexact HB
  iexact HC

end Cert.Experts

end
-- ==== Proof.Experts.First.lean ====
/- An expert's first block as the grid meets it: the slot its weights are in, the slot the next expert's are sent to, and what
   is left of both afterwards. -/
module

public import proofs.«01_k».proof.Proof.Experts.Slots
public import proofs.«01_k».proof.Proof.Experts.Plan

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (Wg : BufOf (F := F) c hbGate) (Wu : BufOf (F := F) c hbUp) (Wd : BufOf (F := F) c hbDown)

/-- Slot `s`, with the weights of an expert on their way into it if there is one. -/
def coming (s : Fin 2) : Option (Fin 64) → sProp 𝕄
  | none => free c Wg Wu Wd s
  | some e => busy c Wg Wu Wd s e

theorem word_toNat (e : Fin 64) : (BitVec.ofNat 32 e.val).toNat = e.val := by
  rw [BitVec.toNat_ofNat]; have := e.isLt; omega
theorem word_lt (e : Fin 64) : (BitVec.ofNat 32 e.val).toNat < 64 := by rw [word_toNat]; exact e.isLt
theorem word_fin (e : Fin 64) : (⟨(BitVec.ofNat 32 e.val).toNat, word_lt e⟩ : Fin 64) = e := Fin.ext (word_toNat e)

/-- The two slots' numbers. -/
theorem slots_two (s : Fin 2) : (s.val = 0 ∧ (1 - s).val = 1) ∨ (s.val = 1 ∧ (1 - s).val = 0) := by revert s; decide

variable (i : grid0.Coords) (arg8 : Memref sig .tc .vmem S512x2048 .bf16) (h8 : arg8.IsWhole) (arg12 : Memref sig .tc .vmem S512x2048 .bf16)
  (h12 : arg12.IsWhole) (x : Vec F S512x2048 .bf16) (T : pre0.Contents (Elt F)) (k : BitVec 32)
  (hk : tbNvb.view.readAt (Elt F) (Rect.unit (s := S1) ![0] S1.size inb_S1_S1_0).toLoadRect (T 6) = fun _ => k)

include hk

/-- The first block of expert `e`, its weights coming by slot `s` (or the grid just begun, `now` none): afterwards they are in
    use, that slot is free, and the other one takes the next expert's. -/
theorem first_run (s : Fin 2) (e : Fin 64) (now next : Option (Fin 64)) (hfirst : word tbFirst (T 2) i = 1#32) (hslot : word tbSlot (T 3) i = BitVec.ofNat 32 s.val)
    (heid : word tbEid (T 1) i = BitVec.ofNat 32 e.val)
    (hnow : (k0_cond1 i = 1#1 ∧ (pt i).val = 0 ∧ s = 0 ∧ now = none) ∨ (¬ k0_cond1 i = 1#1 ∧ now = some e))
    (hnext : (∃ n, next = some n ∧ word tbMore (T 5) i = 1#32 ∧ word tbNxt (T 4) i = BitVec.ofNat 32 n.val) ∨ (next = none ∧ word tbMore (T 5) i = 0#32))
    (hc5 : ¬ k0_cond5 i 1#32 k = 1#1) (hc6 : ¬ k0_cond6 i k = 1#1) (W : Waits sig Unit) (K : PUnit → sProp 𝕄) :
    iprop(owns (c : Thread nD τ) arg8 fullShare x ∗ (∃ y, owns (c : Thread nD τ) arg12 fullShare y) ∗ tables c T
        ∗ inAny c ∗ coming c Wg Wu Wd s now ∗ free c Wg Wu Wd (1 - s) ∗ owes (c : Thread nD τ) 0 W
        ∗ (iprop(owns (c : Thread nD τ) arg8 fullShare x ∗ owns (c : Thread nD τ) arg12 fullShare (firstOut c Wg Wu Wd x e)
          ∗ tables c T ∗ inUse c Wg Wu Wd e ∗ free c Wg Wu Wd s ∗ coming c Wg Wu Wd (1 - s) next
          ∗ (∃ W', owes (c : Thread nD τ) 0 W')) -∗ K ⟨⟩))
      ⊢ wp frame (wpE (defs₀ (F := F)) Variants.none c none) Set.univ (body i arg8 h8 arg12 h12) K := by
  obtain ⟨w, he, hw⟩ : ∃ (w : BitVec 32) (he : w.toNat < 64), (⟨w.toNat, he⟩ : Fin 64) = e ∧ w = BitVec.ofNat 32 e.val := ⟨_, word_lt e, word_fin e, rfl⟩
  obtain ⟨rfl, hw⟩ := hw
  rw [← hw] at heid
  unfold inAny inUse firstOut
  iintro ⟨H0, H1, HT, ⟨H2, H3, H4⟩, HN, HF, HW, Hk⟩
  rcases hnow with ⟨hc1, hi, rfl, rfl⟩ | ⟨hc1, rfl⟩
  case' inl =>
    have ho : (![0] : Fin 1 → ℕ) = k0_off1 i := by rw [off_eq, hi]
    unfold coming
    imod (free_ready c Wg Wu Wd _ ⟨w.toNat, he⟩) $$ HN with ⟨HN, HO⟩
  case' inr =>
    unfold coming
    unfold busy
    icases HN with ⟨HN, HO⟩
  all_goals rcases hnext with ⟨n, rfl, hm, hx⟩ | ⟨rfl, hm⟩
  case' inl.inl | inr.inl =>
    obtain ⟨v, hn, hv⟩ : ∃ (v : BitVec 32) (hn : v.toNat < 64), (⟨v.toNat, hn⟩ : Fin 64) = n ∧ v = BitVec.ofNat 32 n.val := ⟨_, word_lt n, word_fin n, rfl⟩
    obtain ⟨rfl, hv⟩ := hv
    rw [← hv] at hx
    imod (free_ready c Wg Wu Wd _ ⟨v.toNat, hn⟩) $$ HF with ⟨HF, HP⟩
  case' inl.inl =>
    iapply (run_first c Wg Wu Wd i arg8 h8 arg12 h12 x T k w he hk 0 1 (by decide) (by decide) (Or.inl ⟨rfl, rfl⟩) _ _ _ hfirst hslot heid
      (Or.inl ⟨hc1, ho, rfl, rfl⟩) (Or.inl ⟨hm, v, hn, hx, rfl, rfl⟩) hc5 hc6 W _)
  case' inl.inr =>
    iapply (run_first c Wg Wu Wd i arg8 h8 arg12 h12 x T k w he hk 0 1 (by decide) (by decide) (Or.inl ⟨rfl, rfl⟩) _ _ _ hfirst hslot heid
      (Or.inl ⟨hc1, ho, rfl, rfl⟩) (Or.inr ⟨hm, rfl⟩) hc5 hc6 W _)
  case' inr.inl =>
    iapply (run_first c Wg Wu Wd i arg8 h8 arg12 h12 x T k w he hk s.val (1 - s).val s.isLt (1 - s).isLt (slots_two s) _ _ _ hfirst hslot heid
      (Or.inr ⟨hc1, rfl⟩) (Or.inl ⟨hm, v, hn, hx, rfl, rfl⟩) hc5 hc6 W _)
  case' inr.inr =>
    iapply (run_first c Wg Wu Wd i arg8 h8 arg12 h12 x T k w he hk s.val (1 - s).val s.isLt (1 - s).isLt (slots_two s) _ _ _ hfirst hslot heid
      (Or.inr ⟨hc1, rfl⟩) (Or.inr ⟨hm, rfl⟩) hc5 hc6 W _)
  all_goals
    isplitl [H0]; · iexact H0
    isplitl [H1]; · iexact H1
    isplitl [HT]; · iexact HT
    isplitl [H2]; · iexact H2
    isplitl [H3]; · iexact H3
    isplitl [H4]; · iexact H4
    isplitl [HN]; · iexact HN
    isplitl [HF]; · iexact HF
    isplitl [HW]; · iexact HW
    iintro ⟨H0, H1, HT, H2, H3, H4, HU, HQ, HW⟩
    iapply Hk
    isplitl [H0]; · iexact H0
    isplitl [H1]; · iexact H1
    isplitl [HT]; · iexact HT
    isplitl [H2 H3 H4]
    · isplitl [H2]; · iexact H2
      isplitl [H3]; · iexact H3
      iexact H4
    isplitl [HU HO]
    · iapply (used_free c Wg Wu Wd _ ⟨w.toNat, he⟩)
      isplitl [HU]; · iexact HU
      iexact HO
    isplitr [HW]; swap; · iexact HW
  all_goals
    first
    | iexact HQ
    | dsimp only [coming, busy]
      isplitl [HQ]; · iexact HQ
      iexact HP

end Cert.Experts

end
-- ==== Proof.Experts.Step.lean ====
/- The run of the routed experts from any memory whose tables have a plan: the grid's invariant, one step of it, and what the run
   leaves. -/
module

public import proofs.«01_k».proof.Proof.Experts.First
public import Idealize.ShloMosaic.Lib.Pipeline.FrameBody

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (P : Plan (tbl m))

/-! ## The invariant -/

/-- What lies in neither slot's window. -/
def spare (c : Dev nD) : sProp 𝕄 :=
  iprop((∃ f, slGate.view.loc (c : Thread nD τ) ↦[(Finset.univ \ (gateSlot 0 Nat.zero_lt_two).view.set) \ (gateSlot 1 Nat.one_lt_two).view.set]{fullShare} f)
    ∗ (∃ f, slUp.view.loc (c : Thread nD τ) ↦[(Finset.univ \ (upSlot 0 Nat.zero_lt_two).view.set) \ (upSlot 1 Nat.one_lt_two).view.set]{fullShare} f)
    ∗ (∃ f, slDown.view.loc (c : Thread nD τ) ↦[(Finset.univ \ (downSlot 0 Nat.zero_lt_two).view.set) \ (downSlot 1 Nat.one_lt_two).view.set]{fullShare} f))

/-- A free slot, the weights in use, what a slot is waiting for, and what a block computes, with the launch's own weights. -/
abbrev freeM (c : Dev nD) (s : Fin 2) : sProp 𝕄 := free c (V m c main_arg2) (V m c main_arg3) (V m c main_arg4) s
abbrev inUseM (c : Dev nD) (e : Fin 64) : sProp 𝕄 := inUse c (V m c main_arg2) (V m c main_arg3) (V m c main_arg4) e
abbrev comingM (c : Dev nD) (s : Fin 2) (o : Option (Fin 64)) : sProp 𝕄 := coming c (V m c main_arg2) (V m c main_arg3) (V m c main_arg4) s o

/-- The weights once the blocks up to `t` have been computed. -/
def after (c : Dev nD) (t : ℕ) : sProp 𝕄 :=
  iprop(inUseM m c (P.ex (P.cur t)) ∗ freeM m c (P.sl (P.cur t)) ∗ comingM m c (1 - P.sl (P.cur t)) (P.next (P.cur t)))

/-- The weights before block `p`. -/
def held (c : Dev nD) : ℕ → sProp 𝕄
  | 0 => iprop(inAny c ∗ freeM m c 0 ∗ freeM m c 1)
  | t + 1 => after m P c t

/-- Everything the kernel keeps before block `p`. -/
def kept (c : Dev nD) (p : ℕ) : sProp 𝕄 := iprop((∃ r, prngReg c r) ∗ tables c (tbl m) ∗ spare c ∗ held m P c p)

/-- What block `t` of the result is, from its rows. -/
def outAt (c : Dev nD) (t : Fin 320) (x : Vec F S512x2048 .bf16) : Vec F S512x2048 .bf16 :=
  if t.val < P.N then
    if entry tbFirst (tbl m 2) t = 1#32 then firstOut c (V m c main_arg2) (V m c main_arg3) (V m c main_arg4) x (P.ex t.val)
    else laterOut c (V m c main_arg2) (V m c main_arg3) (V m c main_arg4) x (P.ex t.val)
  else k0_pay3 (F := F)

/-! ## One step -/

theorem one_ne : ¬ (1#32 : BitVec 32) = 0#32 := by decide

/-- One step of the grid. -/
theorem step_run (c : Dev nD) (i : grid0.Coords) (arg8 : Memref sig .tc .vmem S512x2048 .bf16) (h8 : arg8.IsWhole) (arg12 : Memref sig .tc .vmem S512x2048 .bf16)
    (h12 : arg12.IsWhole) (x : Vec F S512x2048 .bf16) (W : Waits sig Unit) (K : PUnit → sProp 𝕄) :
    iprop(owns (c : Thread nD τ) arg8 fullShare x ∗ (∃ y, owns (c : Thread nD τ) arg12 fullShare y) ∗ tables c (tbl m) ∗ held m P c (pt i).val
        ∗ owes (c : Thread nD τ) 0 W
        ∗ (iprop(owns (c : Thread nD τ) arg8 fullShare x ∗ owns (c : Thread nD τ) arg12 fullShare (outAt m P c (pt i) x)
          ∗ tables c (tbl m) ∗ held m P c ((pt i).val + 1) ∗ (∃ W', owes (c : Thread nD τ) 0 W')) -∗ K ⟨⟩))
      ⊢ wp frame (wpE (defs₀ (F := F)) Variants.none c none) Set.univ (body i arg8 h8 arg12 h12) K := by
  obtain ⟨t, ht⟩ : ∃ t, pt i = t := ⟨_, rfl⟩
  have hl := P.le
  by_cases hN : t.val < P.N
  · have hc6 : ¬ k0_cond6 i (BitVec.ofNat 32 P.N) = 1#1 := by rw [cond6_iff i P.N hl, ht]; omega
    have hcur : P.cur t.val = t.val := P.cur_of_lt hN
    have first : ∀ (now : Option (Fin 64)), entry tbFirst (tbl m 2) t = 1#32
        → ((k0_cond1 i = 1#1 ∧ (pt i).val = 0 ∧ P.sl t.val = 0 ∧ now = none) ∨ (¬ k0_cond1 i = 1#1 ∧ now = some (P.ex t.val)))
        → (held m P c t.val ⊢ iprop(inAny c ∗ comingM m c (P.sl t.val) now ∗ freeM m c (1 - P.sl t.val)))
        → _ := fun now hf hnow hheld => by
      have hc5 : ¬ k0_cond5 i 1#32 (BitVec.ofNat 32 P.N) = 1#1 := by rw [cond5_iff i _ P.N hl]; exact fun h => one_ne h.1
      have hnext : (∃ n, P.next t.val = some n ∧ word tbMore (tbl m 5) i = 1#32 ∧ word tbNxt (tbl m 4) i = BitVec.ofNat 32 n.val)
          ∨ (P.next t.val = none ∧ word tbMore (tbl m 5) i = 0#32) := by
        have hm := P.more t hN
        unfold Plan.next
        by_cases hs : P.stop t.val < P.N
        · rw [if_pos hs] at hm ⊢
          exact Or.inl ⟨_, rfl, by rw [← ht] at hm; exact hm, by have := P.nxt t hN hs; rw [← ht] at this ⊢; exact this⟩
        · rw [if_neg hs] at hm ⊢
          exact Or.inr ⟨rfl, by rw [← ht] at hm; exact hm⟩
      refine (show iprop(owns (c : Thread nD τ) arg8 fullShare x ∗ (∃ y, owns (c : Thread nD τ) arg12 fullShare y) ∗ tables c (tbl m) ∗ held m P c (pt i).val
        ∗ owes (c : Thread nD τ) 0 W
        ∗ (iprop(owns (c : Thread nD τ) arg8 fullShare x ∗ owns (c : Thread nD τ) arg12 fullShare (outAt m P c (pt i) x)
          ∗ tables c (tbl m) ∗ held m P c ((pt i).val + 1) ∗ (∃ W', owes (c : Thread nD τ) 0 W')) -∗ K ⟨⟩))
        ⊢ wp frame (wpE (defs₀ (F := F)) Variants.none c none) Set.univ (body i arg8 h8 arg12 h12) K from ?_)
      rw [show held m P c ((pt i).val + 1) = after m P c (pt i).val from rfl, ht]
      unfold outAt after
      rw [if_pos hN, if_pos hf, hcur]
      iintro ⟨H0, H1, HT, HH, HW, Hk⟩
      ihave HH := hheld $$ HH
      icases HH with ⟨HA, HC, HF⟩
      iapply (first_run c (V m c main_arg2) (V m c main_arg3) (V m c main_arg4) i arg8 h8 arg12 h12 x (tbl m) (BitVec.ofNat 32 P.N) P.load (P.sl t.val) (P.ex t.val) now
        (P.next t.val) (by rw [← ht] at hf; exact hf) (by have := P.slot t hN; rw [← ht] at this ⊢; exact this)
        (by have := P.eid t hN; rw [← ht] at this ⊢; exact this) hnow hnext hc5 hc6 W K)
      isplitl [H0]; · iexact H0
      isplitl [H1]; · iexact H1
      isplitl [HT]; · iexact HT
      isplitl [HA]; · iexact HA
      isplitl [HC]; · iexact HC
      isplitl [HF]; · iexact HF
      isplitl [HW]; · iexact HW
      iintro ⟨H0, H1, HT, HU, HF, HC, HW⟩
      iapply Hk
      isplitl [H0]; · iexact H0
      isplitl [H1]; · iexact H1
      isplitl [HT]; · iexact HT
      isplitr [HW]; swap; · iexact HW
      isplitl [HU]; · iexact HU
      isplitl [HF]; · iexact HF
      iexact HC
    rcases Nat.eq_zero_or_pos t.val with h0 | h0
    · have ht0 : t = 0 := Fin.ext h0
      have hst := P.start
      refine first none (by rw [ht0]; exact hst.1) (Or.inl ⟨(cond1_iff i).mpr (by rw [ht]; exact h0), by rw [ht]; exact h0, by rw [h0]; exact hst.2, rfl⟩) ?_
      rw [h0, hst.2]
      exact .rfl
    · have hc1 : ¬ k0_cond1 i = 1#1 := by rw [cond1_iff, ht]; omega
      obtain ⟨u, hu⟩ : ∃ u, t.val = u + 1 := ⟨t.val - 1, by omega⟩
      have hcu : P.cur u = u := P.cur_of_lt (by omega)
      rcases P.step t h0 hN with ⟨hf, hs, hsl⟩ | ⟨hf, he, hs, hsl⟩
      · refine first (some (P.ex t.val)) hf (Or.inr ⟨hc1, rfl⟩) ?_
        rw [show t.val - 1 = u by omega] at hs hsl
        have hn : P.next u = some (P.ex t.val) := by unfold Plan.next; rw [hs, if_pos hN]
        have hsl' : 1 - P.sl t.val = P.sl u := by rw [hsl]; generalize P.sl u = s; revert s; decide
        rw [hsl', hsl]
        rw [show held m P c t.val = after m P c u by rw [hu]; rfl]
        unfold after
        rw [hcu, hn]
        iintro ⟨HU, HF, HC⟩
        isplitl [HU]; · iapply (inUse_any c _ _ _ _); iexact HU
        isplitl [HC]; · iexact HC
        iexact HF
      · have hc5 : k0_cond5 i 0#32 (BitVec.ofNat 32 P.N) = 1#1 := (cond5_iff i _ P.N hl).mpr ⟨rfl, by rw [ht]; exact hN⟩
        rw [show t.val - 1 = u by omega] at he hs hsl
        have hn : P.next t.val = P.next u := by unfold Plan.next; rw [hs]
        rw [show held m P c ((pt i).val + 1) = after m P c (pt i).val from rfl, ht, show held m P c t.val = after m P c u by rw [hu]; rfl]
        unfold outAt after
        rw [if_pos hN, if_neg (by rw [hf]; decide), hcur, hcu, hn, he, hsl]
        unfold laterOut inUseM inUse
        iintro ⟨H0, H1, HT, ⟨⟨H2, H3, H4⟩, HF, HC⟩, HW, Hk⟩
        iapply (run_later c i arg8 h8 arg12 h12 x (tbl m) (BitVec.ofNat 32 P.N) P.load _ _ _ (by rw [← ht] at hf; exact hf) hc1 hc5 hc6 W K)
        isplitl [H0]; · iexact H0
        isplitl [H1]; · iexact H1
        isplitl [HT]; · iexact HT
        isplitl [H2]; · iexact H2
        isplitl [H3]; · iexact H3
        isplitl [H4]; · iexact H4
        isplitl [HW]; · iexact HW
        iintro ⟨H0, H1, HT, H2, H3, H4, HW⟩
        iapply Hk
        isplitl [H0]; · iexact H0
        isplitl [H1]; · iexact H1
        isplitl [HT]; · iexact HT
        isplitr [HW]; swap; · iexact HW
        isplitl [H2 H3 H4]
        · isplitl [H2]; · iexact H2
          isplitl [H3]; · iexact H3
          iexact H4
        isplitl [HF]; · iexact HF
        iexact HC
  · have hp := P.pos
    have hc1 : ¬ k0_cond1 i = 1#1 := by rw [cond1_iff, ht]; omega
    have hc5 : ¬ k0_cond5 i 0#32 (BitVec.ofNat 32 P.N) = 1#1 := by rw [cond5_iff i _ P.N hl, ht]; exact fun h => hN h.2
    have hc6 : k0_cond6 i (BitVec.ofNat 32 P.N) = 1#1 := (cond6_iff i P.N hl).mpr (by rw [ht]; omega)
    have hf := P.past t (by omega)
    obtain ⟨u, hu⟩ : ∃ u, t.val = u + 1 := ⟨t.val - 1, by omega⟩
    have hcu : P.cur t.val = P.cur u := by have := P.cur_of_le (t := t.val) (by omega) (by omega); rw [this]; congr 1; omega
    rw [show held m P c ((pt i).val + 1) = after m P c (pt i).val from rfl, ht, show held m P c t.val = after m P c u by rw [hu]; rfl]
    unfold outAt after
    rw [if_neg hN, hcu]
    iintro ⟨H0, H1, HT, HH, HW, Hk⟩
    iapply (run_past c i arg8 h8 arg12 h12 x (tbl m) (BitVec.ofNat 32 P.N) P.load (by rw [← ht] at hf; exact hf) hc1 hc5 hc6 W K)
    isplitl [H0]; · iexact H0
    isplitl [H1]; · iexact H1
    isplitl [HT]; · iexact HT
    isplitl [HW]; · iexact HW
    iintro ⟨H0, H1, HT, HW⟩
    iapply Hk
    isplitl [H0]; · iexact H0
    isplitl [H1]; · iexact H1
    isplitl [HT]; · iexact HT
    isplitl [HH]; · iexact HH
    iexact HW

end Cert.Experts

end
-- ==== Proof.Experts.Frame.lean ====
/- The run of the routed experts from any memory whose tables have a plan: every array the kernel reads ends unchanged, every
   semaphore at zero, and every block of the result as the plan says. -/
module

public import proofs.«01_k».proof.Proof.Experts.Step
public import Idealize.ShloMosaic.Lib.Pipeline.FrameBody

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (P : Plan (tbl m))

/-- A point's block of rows. -/
abbrev rowsAt (c : Dev nD) (t : Fin (cfgM m P.ok).N) : Vec F S512x2048 .bf16 := iblk m P.ok c 0 t

/-- The launch's proof data: the arrays as the grid finds them, each point's block of rows left as it is and its block of the
    result computed, and what the kernel keeps. -/
def dats : (p : Fin 1) → (c : Dev nD) → Dat τ (Elt F) Unit ℕ (Pipeline.UD sig nD τ) ℕ (Pipeline.pin pcfgs (fun _ => adm m P.ok) p) c
  | ⟨0, _⟩ => fun c => {
    A := fun w => V m c (Pipeline.arrRef spec0 w)
    after := fun w t => match w with
      | ⟨0, _⟩ => iblk m P.ok c 0 t
      | ⟨1, _⟩ => outAt m P c (pt (grid0.coords t)) (rowsAt m P c t)
    Φ := fun p => kept m P c p.val
    q := fun _ => fullShare
    owed := fun _ => 0 }

theorem A_eq (c : Dev nD) (w : Fin (cfgM m P.ok).W) : (dats m P 0 c).A w = V m c (Pipeline.arrRef spec0 w) := by
  dsimp only [dats]
theorem after_rows (c : Dev nD) (t : Fin (cfgM m P.ok).N) : (dats m P 0 c).after 0 t = iblk m P.ok c 0 t := by dsimp only [dats]; try rfl
theorem after_out (c : Dev nD) (t : Fin (cfgM m P.ok).N) : (dats m P 0 c).after 1 t = outAt m P c (pt (grid0.coords t)) (rowsAt m P c t) := by
  dsimp only [dats]; try rfl
theorem before_rows (c : Dev nD) (t : Fin (cfgM m P.ok).N) (d) : (dats m P 0 c).before 0 t d = iblk m P.ok c 0 t :=
  before_in m P.ok (dats m P 0 c) (A_eq m P c 0) (after_rows m P c) t d
theorem Phi_castSucc (c : Dev nD) (t : Fin (cfgM m P.ok).N) : (dats m P 0 c).Φ t.castSucc = kept m P c (pt (grid0.coords t)).val :=
  congrArg (kept m P c) (pt_coords t).symm
theorem Phi_succ (c : Dev nD) (t : Fin (cfgM m P.ok).N) : (dats m P 0 c).Φ t.succ = kept m P c ((pt (grid0.coords t)).val + 1) :=
  congrArg (kept m P c) (congrArg (· + 1) (pt_coords t).symm)

/-! ## One point -/

/-- The kernel at point `t`. -/
abbrev bodyAt (t : Fin (cfgM m P.ok).N) : Prog (TpuEff nD τ sig (Elt F) Λ₀ .tc) PUnit :=
  body (grid0.coords t) (stX m P.ok t) (hstX m P.ok t) (stY m P.ok t) (hstY m P.ok t)

def bodyPre (c : Dev nD) (t : Fin (cfgM m P.ok).N) : sProp 𝕄 :=
  iprop((dats m P 0 c).Φ t.castSucc ∗ (dats m P 0 c).owesAt () t.castSucc
    ∗ (∃ d, owns (c : Thread nD τ) (stX m P.ok t) fullShare ((dats m P 0 c).before 0 t d))
    ∗ (∃ d, owns (c : Thread nD τ) (stY m P.ok t) fullShare ((dats m P 0 c).before 1 t d)))
def bodyPost (c : Dev nD) (t : Fin (cfgM m P.ok).N) : sProp 𝕄 :=
  iprop((dats m P 0 c).Φ t.succ ∗ (dats m P 0 c).owesAt () t.succ
    ∗ owns (c : Thread nD τ) (stX m P.ok t) fullShare ((dats m P 0 c).after 0 t)
    ∗ owns (c : Thread nD τ) (stY m P.ok t) fullShare ((dats m P 0 c).after 1 t))

theorem sound_body (c : Dev nD) (t : Fin (cfgM m P.ok).N) :
    bodyPre m P c t ⊢ wp frame (wpE (defs₀ (F := F)) Variants.none c none) Set.univ (bodyAt m P t) (fun _ => bodyPost m P c t) := by
  unfold bodyPre bodyPost bodyAt
  simp only [before_rows]
  rw [Phi_castSucc, Phi_succ, after_rows, after_out]
  unfold Dat.owesAt Pipeline.owesWithin kept
  rw [show (dats m P 0 c).owed t.castSucc = 0 from rfl, show (dats m P 0 c).owed t.succ = 0 from rfl]
  iintro ⟨⟨Hg, HT, HS, HH⟩, ⟨%W, -, HW⟩, ⟨%d0, H0⟩, ⟨%d1, H1⟩⟩
  iapply (step_run m P c (grid0.coords t) _ _ _ _ (iblk m P.ok c 0 t) W _)
  isplitl [H0]; · iexact H0
  isplitl [H1]; · iexists _; iexact H1
  isplitl [HT]; · iexact HT
  isplitl [HH]; · iexact HH
  isplitl [HW]; · iexact HW
  iintro ⟨H0, H1, HT, HH, ⟨%W', HW'⟩⟩
  isplitl [Hg HT HS HH]
  · isplitl [Hg]; · iexact Hg
    isplitl [HT]; · iexact HT
    isplitl [HS]; · iexact HS
    iexact HH
  isplitl [HW']
  · iexists W'; isplitr; · ipureintro; exact fun _ _ => Or.inl trivial
    iexact HW'
  isplitl [H0]; · iexact H0
  iexact H1

theorem defs₀_row (t : Fin (cfgM m P.ok).N) :
    defs₀ (F := F) .tc (cfgM m P.ok).body ((cfgM m P.ok).bodyArgs t ((cfgM m P.ok).slots t)) = bodyAt m P t := by
  unfold defs₀; rw [Defs.onTc_tc]

/-- The tables' words by which the loop tells whether a point writes the result. -/
theorem first_word (T : pre0.Contents (Elt F)) (i : grid0.Coords) {o : Fin 1 → ℕ} (ho : o = k0_off1 i) :
    T.atD 2 o = entry tbFirst (T 2) (pt i) := by
  rw [off_eq] at ho
  have hi : ∀ a, o a + 1 ≤ (pre0.ref 2).ty.shape.size a := by
    rw [ho]; intro a; fin_cases a; exact (pt i).isLt
  refine (dif_pos hi).trans (congrArg (T 2) ?_)
  funext a; fin_cases a; exact Fin.ext (congrFun ho 0)
theorem nvb_word {T : pre0.Contents (Elt F)} (P : Plan T) : T.atD 6 ![0] = BitVec.ofNat 32 P.N :=
  (dif_pos (show ∀ a, (![0] : Fin 1 → ℕ) a + 1 ≤ S1.size a by decide)).trans (P.nvb _)

/-- Every point writes its block of the result. -/
theorem writes_at {T : pre0.Contents (Elt F)} (P : Plan T) (i : grid0.Coords) : idle0 T 1 i = false := by
  have hl := P.le
  dsimp only [idle0]
  rw [first_word T i (o := k0_off21 i) rfl, first_word T i (o := k0_off25 i) rfl, nvb_word P]
  by_cases hN : (pt i).val < P.N
  · have hf : entry tbFirst (T 2) (pt i) = 1#32 ∨ entry tbFirst (T 2) (pt i) = 0#32 := by
      rcases Nat.eq_zero_or_pos (pt i).val with h0 | h0
      · exact Or.inl ((congrArg (entry tbFirst (T 2)) (Fin.ext h0)).trans P.start.1)
      · rcases P.step (pt i) h0 hN with ⟨h, -⟩ | ⟨h, -⟩
        · exact Or.inl h
        · exact Or.inr h
    rcases hf with hf | hf <;> rw [hf]
    · rw [show k0_cond4 (1#32) = 1#1 by decide]; rfl
    · rw [show k0_cond5 i 0#32 (BitVec.ofNat 32 P.N) = 1#1 from (cond5_iff i _ P.N hl).mpr ⟨rfl, hN⟩]
      simp
  · rw [show k0_cond6 i (BitVec.ofNat 32 P.N) = 1#1 from (cond6_iff i P.N hl).mpr (by omega)]
    simp

theorem body_obligation (c : Dev nD) : BodyObligation (dats (F := F) m P 0 c) (defs₀ (F := F)) Variants.none () Set.univ := fun t => by
  rw [bigSep_W0, bigSep_W0, defs₀_row m P]
  refine triple_restated (sound_body m P c t) rfl .rfl fun _ => ?_
  have h : idle0 (tbl m) 1 (((pcfgs 0).gridAt (tbl m)).coords t) = false := writes_at P _
  dsimp only
  rw [h]
  exact .rfl

/-! ## The grid's beginning and end -/

/-- A whole buffer held outright is owned, and an owned one held outright. -/
theorem whole_owns (c : Dev nD) {S : Shape} {e : EltTy} {M : Memref sig .tc .vmem S e} (hM : M.IsWhole) :
    iprop(∃ f, whole (F := F) c M f) ⊢ (iprop(∃ g, owns (c : Thread nD τ) M fullShare g) : sProp 𝕄) := by
  unfold owns
  rw [hM.set_eq_univ]
  iintro ⟨%f, H⟩
  iexists (M.view.read (Elt F) f), f
  isplitr; · ipureintro; rfl
  iexact H
theorem owns_whole (c : Dev nD) {S : Shape} {e : EltTy} {M : Memref sig .tc .vmem S e} (hM : M.IsWhole) :
    (iprop(∃ g, owns (c : Thread nD τ) M fullShare g) : sProp 𝕄) ⊢ iprop(∃ f, whole (F := F) c M f) := by
  unfold owns
  rw [hM.set_eq_univ]
  iintro ⟨%g, %f, -, H⟩
  iexists f
  iexact H

theorem enter (c : Dev nD) : iprop(Pipeline.ΦD osem spec0 inHbm (V m) c ∗ Pipeline.ΦT pre0 (tbl m) c) ⊢ (dats m P 0 c).Φ 0 := by
  rw [PhiD_eq, PhiT_eq]
  refine (show _ ⊢ kept m P c 0 from ?_)
  unfold kept held spare inAny freeM free
  iintro ⟨⟨⟨⟨%f0, H0⟩, ⟨%f1, H1⟩, ⟨%f2, H2⟩, H3, H4, H5⟩, Hg, ⟨HA, HB⟩, ⟨K0, K1, K2⟩⟩, HT⟩
  ihave H0 := (split_two f0 gate_disjoint) $$ H0
  ihave H1 := (split_two f1 up_disjoint) $$ H1
  ihave H2 := (split_two f2 down_disjoint) $$ H2
  ihave K0 := ((pointsTo_share (PosShare.mem_left_op_right fullShare)).1) $$ K0
  ihave K1 := ((pointsTo_share (PosShare.mem_left_op_right fullShare)).1) $$ K1
  ihave K2 := ((pointsTo_share (PosShare.mem_left_op_right fullShare)).1) $$ K2
  icases H0 with ⟨A0, B0, C0⟩
  icases H1 with ⟨A1, B1, C1⟩
  icases H2 with ⟨A2, B2, C2⟩
  icases K0 with ⟨L0, R0⟩
  icases K1 with ⟨L1, R1⟩
  icases K2 with ⟨L2, R2⟩
  isplitl [Hg]; · iexact Hg
  isplitl [HT]; · iexact HT
  isplitl [C0 C1 C2]
  · isplitl [C0]; · iexists _; iexact C0
    isplitl [C1]; · iexists _; iexact C1
    iexists _; iexact C2
  isplitl [H3 H4 H5]
  · isplitl [H3]
    · iapply (whole_owns c (Memref.isWhole_whole cc0_scratch3)); iexact H3
    isplitl [H4]
    · iapply (whole_owns c (Memref.isWhole_whole cc0_scratch4)); iexact H4
    iapply (whole_owns c (Memref.isWhole_whole cc0_scratch5)); iexact H5
  isplitl [HA A0 A1 A2 L0 L1 L2]
  · isplitl [HA]; · iexact HA
    isplitl [A0 A1 A2]
    · isplitl [A0]; · iexists _; iexact A0
      isplitl [A1]; · iexists _; iexact A1
      iexists _; iexact A2
    isplitl [L0]; · iexact L0
    isplitl [L1]; · iexact L1
    iexact L2
  isplitl [HB]; · iexact HB
  isplitl [B0 B1 B2]
  · isplitl [B0]; · iexists _; iexact B0
    isplitl [B1]; · iexists _; iexact B1
    iexists _; iexact B2
  isplitl [R0]; · iexact R0
  isplitl [R1]; · iexact R1
  iexact R2

/-- At the end both slots are free. -/
theorem held_end (c : Dev nD) : held m P c 320 ⊢ iprop(inAny c ∗ freeM m c 0 ∗ freeM m c 1) := by
  have h1 := P.pos
  have h2 := P.le
  have hc : P.cur 319 = P.N - 1 := by unfold Plan.cur; omega
  have hn : P.next (P.N - 1) = none := by
    have h3 := P.lt_stop (P.N - 1) (by omega)
    unfold Plan.next; rw [if_neg (by omega)]
  rw [show held m P c 320 = after m P c 319 from rfl]
  unfold after
  rw [hc, hn]
  generalize P.sl (P.N - 1) = s
  rw [show comingM m c (1 - s) none = freeM m c (1 - s) from rfl]
  iintro ⟨HU, HA, HB⟩
  isplitl [HU]; · iapply (inUse_any c _ _ _ _); iexact HU
  obtain rfl | rfl : s = 0 ∨ s = 1 := by revert s; decide
  · rw [show (1 : Fin 2) - 0 = 1 by decide]
    isplitl [HA]; · iexact HA
    iexact HB
  · rw [show (1 : Fin 2) - 1 = 0 by decide]
    isplitl [HB]; · iexact HB
    iexact HA

theorem leave (c : Dev nD) : (dats m P 0 c).Φ (Fin.last (cfgM m P.ok).N) ⊢ Pipeline.ΦD osem spec0 inHbm (V m) c := by
  rw [PhiD_eq]
  refine (show (dats m P 0 c).Φ (Fin.last (cfgM m P.ok).N) ⊢ kept m P c 320 from Entails.of_eq (congrArg (kept m P c) N_0)).trans ?_
  unfold kept
  iintro ⟨Hg, -, HS, HH⟩
  ihave HH := (held_end m P c) $$ HH
  unfold spare inAny freeM free
  icases HS with ⟨C0, C1, C2⟩
  icases HH with ⟨⟨H3, H4, H5⟩, ⟨HA, ⟨A0, A1, A2⟩, L0, L1, L2⟩, ⟨HB, ⟨B0, B1, B2⟩, R0, R1, R2⟩⟩
  isplitl [A0 A1 A2 B0 B1 B2 C0 C1 C2 H3 H4 H5]
  · isplitl [A0 B0 C0]
    · iapply (join_two gate_disjoint)
      isplitl [A0]; · iexact A0
      isplitl [B0]; · iexact B0
      iexact C0
    isplitl [A1 B1 C1]
    · iapply (join_two up_disjoint)
      isplitl [A1]; · iexact A1
      isplitl [B1]; · iexact B1
      iexact C1
    isplitl [A2 B2 C2]
    · iapply (join_two down_disjoint)
      isplitl [A2]; · iexact A2
      isplitl [B2]; · iexact B2
      iexact C2
    isplitl [H3]; · iapply (owns_whole c (Memref.isWhole_whole cc0_scratch3)); iexact H3
    isplitl [H4]; · iapply (owns_whole c (Memref.isWhole_whole cc0_scratch4)); iexact H4
    iapply (owns_whole c (Memref.isWhole_whole cc0_scratch5)); iexact H5
  isplitl [Hg]; · iexact Hg
  isplitl [HA HB]
  · isplitl [HA]; · iexact HA
    iexact HB
  isplitl [L0 R0]
  · iapply ((pointsTo_share (PosShare.mem_left_op_right fullShare)).2); isplitl [L0]; · iexact L0
    iexact R0
  isplitl [L1 R1]
  · iapply ((pointsTo_share (PosShare.mem_left_op_right fullShare)).2); isplitl [L1]; · iexact L1
    iexact R1
  iapply ((pointsTo_share (PosShare.mem_left_op_right fullShare)).2); isplitl [L2]; · iexact L2
  iexact R2

/-! ## The run -/

set_option backward.isDefEq.respectTransparency.types false in
theorem run_main : θ_run defs (onTc (τ := τ) (main (F := F))) ⟨m, fun _ => 0, ρ⟩
    (fun r => Pipeline.FramePost (Pipeline.pin pcfgs fun _ => adm m P.ok) (dats m P) 0 (V m) r ∧ r.2.sem = fun _ => 0) :=
  Pipeline.θ_run_frameP_dma (Q' := _) pcfgs (fun _ => adm m P.ok) (dats m P) (0 : Fin 1) launch0 osem defs₀ Variants.none ownSemFacts inHbm inHbm_sub m ρ main
    (hbody := fun c => (body_obligation m P c).loose) (hshare := fun c => (dats m P 0 c).share_full fun _ => rfl)
    (howed := fun _ _ => rfl) (V := V m) (hmain := hmain m Variants.none) (hA := A_eq m P) (hpf := V_pre m) (hin := enter m P) (hout := leave m P)

end Cert.Experts

end
-- ==== Proof.Experts.Ends.lean ====
/- How the run ends: the result array as the steps have left it, the arguments as they were, every semaphore at zero. The two programs
   have one text, so the one run serves both. -/
module

public import proofs.«01_k».proof.Proof.Experts.Tables
public import proofs.«01_k».proof.Proof.Experts.Range
public import proofs.«01_k».proof.Proof.Experts.Frame
public import proofs.«01_k».proof.Defs

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
set_option maxHeartbeats 4000000

theorem V_arg0 (c : Dev nD) : V m c main_arg0 = m ((c.tc : Thread nD τ).loc main_arg0) := by
  rw [V_cut m c 0 main_arg0]
  simp only [stretches, List.drop_zero, List.flatten_cons, List.flatten_nil, List.append_nil]
  after_reads_simp

theorem V_arg1 (c : Dev nD) : V m c main_arg1 = m ((c.tc : Thread nD τ).loc main_arg1) := by
  rw [V_cut m c 0 main_arg1]
  simp only [stretches, List.drop_zero, List.flatten_cons, List.flatten_nil, List.append_nil]
  after_reads_simp

theorem V_arg2 (c : Dev nD) : V m c main_arg2 = m ((c.tc : Thread nD τ).loc main_arg2) := by
  rw [V_cut m c 0 main_arg2]
  simp only [stretches, List.drop_zero, List.flatten_cons, List.flatten_nil, List.append_nil]
  after_reads_simp

theorem V_arg3 (c : Dev nD) : V m c main_arg3 = m ((c.tc : Thread nD τ).loc main_arg3) := by
  rw [V_cut m c 0 main_arg3]
  simp only [stretches, List.drop_zero, List.flatten_cons, List.flatten_nil, List.append_nil]
  after_reads_simp

theorem V_arg4 (c : Dev nD) : V m c main_arg4 = m ((c.tc : Thread nD τ).loc main_arg4) := by
  rw [V_cut m c 0 main_arg4]
  simp only [stretches, List.drop_zero, List.flatten_cons, List.flatten_nil, List.append_nil]
  after_reads_simp

end

/-- The arguments are as they were. -/
abbrev ArgsKept (m m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)

theorem run_end (P : Plan (tbl m)) : θ_run defs (onTc (τ := τ) (main (F := F))) ⟨m, fun _ => 0, ρ⟩
    (fun r => (∀ c : Dev nD, r.2.mem ((c.tc : Thread nD τ).loc main_v61) = (dats m P 0 c).arrAt 1 grid0.N ∧ ArgsKept m r.2.mem c) ∧ r.2.sem = fun _ => 0) :=
  (θ_run defs _ _).mono (fun r h => ⟨fun c => ⟨(h.1 c).1 1,
      ((h.1 c).2 main_arg0 (show main_arg0 ∈ Pipeline.restRefs sig spec0 by decide)).trans (V_arg0 m c),
      ((h.1 c).1 0).trans (((dats m P 0 c).arrAt_in 0 rfl _).trans ((A_eq m P c 0).trans (V_arg1 m c))),
      ((h.1 c).2 main_arg2 (show main_arg2 ∈ Pipeline.restRefs sig spec0 by decide)).trans (V_arg2 m c),
      ((h.1 c).2 main_arg3 (show main_arg3 ∈ Pipeline.restRefs sig spec0 by decide)).trans (V_arg3 m c),
      ((h.1 c).2 main_arg4 (show main_arg4 ∈ Pipeline.restRefs sig spec0 by decide)).trans (V_arg4 m c)⟩, h.2⟩) (run_main m ρ P)

set_option maxHeartbeats 4000000 in
/-- The kernel over the reals ends with its arguments as they were. -/
theorem frame_ideal : Cert.quiescent_KernelIdeal := fun m ρ hpre => by
  obtain ⟨C, hC⟩ := range_of_pre (F := Ideal) _ _ _ _ _ (hpre 0)
  exact (θ_run Cert.KernelIdeal.defs _ _).mono (fun _ h => ⟨fun c => (h.1 c).2, h.2⟩) (run_end (F := Ideal) m ρ (plan m C hC))

end Cert.Experts

end
-- ==== Proof.Experts.Result.lean ====
/- The array the launch leaves: every block in use holds its expert's results for its rows, every other block zero. -/
module

public import proofs.«01_k».proof.Proof.Experts.Expert
public import proofs.«01_k».proof.Proof.Experts.Ends
public import Idealize.ShloMosaic.Lib.Pipeline.ValueKit
public import Idealize.ShloMosaic.Lib.Pipeline.Covers

@[expose] public section

set_option maxRecDepth 16384

noncomputable section

namespace Cert.Experts

open Cert.KernelIdeal Cert.KernelIdeal.Gen
open Idealize.ShloMosaic Idealize.ShloMosaic.TcCoe Idealize.SL.Sem Idealize.ShloMosaic.Tactic
open Idealize.ShloMosaic.Pipeline (Dat Cfg Window)

/-- Row `i`'s block: blocks have 512 rows. -/
def blockOf (i : Fin 163840) : ℕ := i.val / 512

/-- The result, from which expert each block has and how many blocks are in use. -/
def resultOf (N : ℕ) (ex : ℕ → Fin 64) (x : Vec Ideal S163840x2048 .bf16) (Wg Wu : Vec Ideal S64x2048x512 .f32) (Wd : Vec Ideal S64x512x2048 .f32)
    (i : Fin 163840) (q : Fin 2048) : EReal :=
  if blockOf i < N then expertRow (fun k => x (ix2 i k)) (fun k j => Wg (ix3 (ex (blockOf i)) k j)) (fun k j => Wu (ix3 (ex (blockOf i)) k j))
    (fun j q => Wd (ix3 (ex (blockOf i)) j q)) q
  else 0

variable (m : (ℓ : Loc nD τ sig) → Buf (Elt Ideal) ℓ) (P : Plan (tbl m))

/-- What block `t` of the result holds, from its rows. -/
theorem outAt_at (c : Dev nD) (t : Fin 320) (x : Vec Ideal S512x2048 .bf16) (r : Fin 512) (q : Fin 2048) :
    (outAt m P c t x : Vec Ideal S512x2048 .bf16) (ix2 r q)
      = if t.val < P.N then expertRow (fun k => x (ix2 r k)) (fun k j => (V m c main_arg2 : Vec Ideal S64x2048x512 .f32) (ix3 (P.ex t.val) k j))
          (fun k j => (V m c main_arg3 : Vec Ideal S64x2048x512 .f32) (ix3 (P.ex t.val) k j))
          (fun j q => (V m c main_arg4 : Vec Ideal S64x512x2048 .f32) (ix3 (P.ex t.val) j q)) q
        else 0 := by
  unfold outAt
  by_cases h : t.val < P.N
  · rw [if_pos h, if_pos h]
    by_cases hf : entry tbFirst (tbl m 2) t = 1#32
    · rw [if_pos hf]
      unfold firstOut
      rw [outFirst_at]
      simp only [pay4_at, pay5_at, pay6_at]
      simp only [gateW_at, downW_at]
    · rw [if_neg hf]
      unfold laterOut
      rw [outLater_at]
      simp only [pay4_at, pay5_at, pay6_at]
      simp only [gateW_at, downW_at]
  · rw [if_neg h, if_neg h]
    unfold k0_pay3
    show (Scalar.ofBits (F := Ideal) .bf16 0x0000#16 : EReal) = 0
    pointwise []

/-- The windows' blocks: the rows a point is given, and its block of the result. -/
theorem index_rows (t : Fin (cfgM m P.ok).N) : ((cfgM m P.ok).win 0).index t = ![min t.val (P.N - 1), 0] := by
  have h := P.rows (grid0.coords t)
  rw [pt_coords] at h
  exact h

theorem index_out (t : Fin (cfgM m P.ok).N) : ((cfgM m P.ok).win 1).index t = ![t.val, 0] := by
  have h1 : t.val < 320 := lt_of_lt_of_eq t.isLt N_0
  funext a; fin_cases a
  · show (BitVec.ofNat 32 (pt (grid0.coords t)).val).toNat = t.val
    rw [pt_coords, BitVec.toNat_ofNat]
    omega
  · rfl

theorem covers_out : ((cfgM m P.ok).win 1).Covers := by
  refine Pipeline.Window.covers_of_index_surj _ rfl (fun (a : Fin 2) => ?_) fun β => ?_
  · match a with
    | 0 => show 0 < 512; omega
    | 1 => show 0 < 2048; omega
  · have h0 : (β (0 : Fin 2)).val < (163840 + 512 - 1) / 512 := (β (0 : Fin 2)).isLt
    have h1 : (β (1 : Fin 2)).val < (2048 + 2048 - 1) / 2048 := (β (1 : Fin 2)).isLt
    have h2 : (β (0 : Fin 2)).val < 320 := by omega
    refine ⟨⟨(β (0 : Fin 2)).val, lt_of_lt_of_eq h2 N_0.symm⟩, fun (a : Fin 2) => ?_⟩
    rw [index_out m P]
    match a with
    | 0 => rfl
    | 1 => show 0 = (β (1 : Fin 2)).val; omega

/-- The row of the arrays that row `r` of a point's block is. -/
def rowOf (t : Fin (cfgM m P.ok).N) (r : Fin 512) : Fin 163840 :=
  ⟨t.val * 512 + r.val, by have h1 : t.val < 320 := lt_of_lt_of_eq t.isLt N_0; omega⟩

theorem blockOf_row (t : Fin (cfgM m P.ok).N) (r : Fin 512) : blockOf (rowOf m P t r) = t.val := by
  show (t.val * 512 + r.val) / 512 = t.val
  omega

theorem rows_at (c : Dev nD) (t : Fin (cfgM m P.ok).N) (h : t.val < P.N) (r : Fin 512) (k : Fin 2048) :
    (rowsAt m P c t : Vec Ideal S512x2048 .bf16) (ix2 r k) = (V m c main_arg1 : Vec Ideal S163840x2048 .bf16) (ix2 (rowOf m P t r) k) := by
  have e := index_rows m P t
  have e0 : min t.val (P.N - 1) = t.val := by omega
  rw [e0] at e
  refine congrArg (V m c main_arg1 : Vec Ideal S163840x2048 .bf16) (funext fun (q : Fin 2) => ?_)
  match q with
  | 0 => apply Fin.ext; blk_simp [e, rowOf]
  | 1 => apply Fin.ext; blk_simp [e]

theorem emb_out (t : Fin (cfgM m P.ok).N) (r : Fin 512) (q : Fin 2048) :
    (((cfgM m P.ok).win 1).blk t).view.emb (ix2 (n0 := 512) (n1 := 2048) r q) = (ix2 (rowOf m P t r) q : S163840x2048.Idx) := by
  have e := index_out m P t
  funext (a : Fin 2)
  match a with
  | 0 => apply Fin.ext; blk_simp [e, rowOf]
  | 1 => apply Fin.ext; blk_simp [e]

set_option maxHeartbeats 1000000 in
/-- The launch's result. -/
theorem out_eq (c : Dev nD) : (dats m P 0 c).arrAt 1 (cfgM m P.ok).N = fun (i : S163840x2048.Idx) => resultOf P.N P.ex (V m c main_arg1) (V m c main_arg2) (V m c main_arg3) (V m c main_arg4) (i 0) (i 1) := by
  refine (dats m P 0 c).arrAt_eq_of_covers 1 _ (covers_out m P) fun t hf y => ?_
  blk_simp
  rw [after_out]
  revert y
  intro (y : S512x2048.Idx)
  idx_vars y
  rw [emb_out m P t y0 y1]
  refine (outAt_at m P c (pt (grid0.coords t)) (rowsAt m P c t) y0 y1).trans ?_
  rw [show (pt (grid0.coords t)).val = t.val from pt_coords t]
  show _ = resultOf P.N P.ex (V m c main_arg1) (V m c main_arg2) (V m c main_arg3) (V m c main_arg4) (rowOf m P t y0) y1
  unfold resultOf
  rw [blockOf_row]
  by_cases h : t.val < P.N
  · rw [if_pos h, if_pos h]
    simp only [rows_at m P c t h]
  · rw [if_neg h, if_neg h]

end Cert.Experts

end
-- ==== Proof.Experts.Reference.lean ====
/- The reference of the routed experts, read at an index: the same function of the arguments that the kernel's result is. -/
module

public import proofs.«01_k».proof.Proof.Gen.ReferenceIdeal.Run
public import proofs.«01_k».proof.Proof.Experts.Result
public import proofs.«01_k».proof.Proof.Experts.Words

@[expose] public section

set_option maxRecDepth 16384

noncomputable section

namespace Cert.Experts.Ref

open Cert.ReferenceIdeal Cert.ReferenceIdeal.Gen Cert.ReferenceIdeal.Value
open Idealize.ShloMosaic Idealize.ShloMosaic.TcCoe Idealize.SL.Sem Idealize.ShloMosaic.Tactic
open Idealize.ShloMosaic.Routing Idealize.ShloMosaic.WordCmp

/-- A stack of `a` matrices of `b` rows and `c` columns. -/
abbrev shape3 (a b c : ℕ) : Shape := ⟨3, ![a, b, c]⟩

/-- How a take of whole matrices reads a stack of them: one number for each matrix taken. -/
def matDims {nb A B n : ℕ} (wf : GatherDims.WF (shape3 nb A B) (shape2 n 1) (shape3 n A B) [1, 2] [0] [] [0] [] 1 ![1, A, B]) :
    GatherDims (shape3 nb A B) (shape2 n 1) (shape3 n A B) where
  offsetDims := [1, 2]
  collapsedSliceDims := [0]
  operandBatchingDims := []
  startIndicesBatchingDims := []
  startIndexMap := [0]
  indexVectorDim := 1
  sliceSizes := ![1, A, B]
  wf := wf

/-- The matrix taken for a number within the stack is the one of that number. -/
theorem take_matrix {α : Type} {nb A B n : ℕ} (wf : GatherDims.WF (shape3 nb A B) (shape2 n 1) (shape3 n A B) [1, 2] [0] [] [0] [] 1 ![1, A, B])
    (x : (shape3 nb A B).Idx → α) (idx : IVec (shape2 n 1) 32) (t : Fin n) (k : Fin A) (j : Fin B) (e : Fin nb) (hnb : nb < 2 ^ 31)
    (he : idx (ix2 t (0 : Fin 1)) = BitVec.ofNat 32 e.val) : Host.gather (matDims wf) x idx (ix3 t k j) = x (ix3 e k j) := by
  unfold Host.gather
  refine congrArg x (funext fun (a : Fin 3) => Fin.ext ?_)
  match a with
  | 0 =>
    have hs : (matDims wf).siIdx (ix3 t k j) ⟨0, Nat.zero_lt_one⟩ = ix2 t (0 : Fin 1) := by
      funext (b : Fin 2)
      match b with
      | 0 => rfl
      | 1 => rfl
    show min (idx ((matDims wf).siIdx (ix3 t k j) ⟨0, Nat.zero_lt_one⟩)).toInt.toNat (nb - 1) = e.val
    have hlt := e.isLt
    rw [hs, he, StableHlo.Predicate.toInt_ofNat_small _ (by omega)]
    show min ((e.val : Int)).toNat (nb - 1) = e.val
    omega
  | 1 => exact Nat.zero_add _
  | 2 => exact Nat.zero_add _

/-- The first row of each of the 320 blocks. -/
def firstRows : IVec S320 32 := muli (iotaInDim S320 32 0) (fill bcast_S_S320 512#32)

/-- Where each expert's stretch of whole blocks ends. -/
def stretches (a0 : IVec S64 32) : IVec S64 32 :=
  Host.reduceWindow IntOp.addi ![64] ![1] ![63] ![0] (muli (pyDiv bcast_S_S64 (subi (addi a0 (fill bcast_S_S64 512#32)) (fill bcast_S_S64 1#32))
    (id (constantI S_ 32 512#32))) (fill bcast_S_S64 512#32)) (broadcastInDim S_ ![] bcast_S_S_ (constantI S_ 32 0#32)) reduceWindows_S64_S64_w64s1p63_0 h_S_

/-- Each block's expert. -/
def owners (a0 : IVec S64 32) : IVec S320 32 :=
  ownerOf (n := 320) bcast_S_S320 bcast_S64_S1x64_1 bcast_S1x64_S320x64_0_1 bcast_S320_S320x1_0 bcast_S320x1_S320x64_0_1 reducesTo_S320x64_S320_d1 h_S_ natLt_1_32
    (stretches a0) firstRows

/-- The experts' numbers, as the takes of their matrices are given them. -/
def numbers (a0 : IVec S64 32) : IVec S320x1 32 :=
  broadcastInDim S320x1 ![0] bcast_S320_S320x1_0 (select (cmpi .slt (owners a0) (fill bcast_S_S320 0#32)) (addi (owners a0) (fill bcast_S_S320 64#32)) (owners a0))

/-- Which blocks are in use. -/
def inUse (a0 : IVec S64 32) : IVec S320 1 :=
  cmpi .slt firstRows (broadcastInDim S320 ![] bcast_S_S320 (shapeCast S_ (extractStridedSlice S1 ![63] (stretches a0) slices_S64_S1_63) shapeCasts_S1_S_))

/-- The rows by block. -/
def byBlock (x : FVec Ideal S163840x2048 .bf16) : FVec Ideal S320x512x2048 .f32 :=
  shapeCast S320x512x2048 (extf .f32 x bitsLt_bf16_f32 : FVec Ideal S163840x2048 .f32) shapeCasts_S163840x2048_S320x512x2048

/-- Every block's rows through its expert's matrix. -/
def through (x : FVec Ideal S320x512x2048 .f32) (w : FVec Ideal S320x2048x512 .f32) : FVec Ideal S320x512x512 .f32 :=
  Host.dotGeneral dot_S320x512x2048_S320x2048x512_S320x512x512_2_1_1_2_0_0 none x w

def one : FVec Ideal S320x512x512 .f32 := broadcastInDim S320x512x512 ![] bcast_S_S320x512x512 (constant S_ .f32 0x3F800000#32)

/-- The hidden rows, from the products with gate and up. -/
def mixed (g u : FVec Ideal S320x512x512 .f32) : FVec Ideal S320x512x512 .f32 :=
  mulf (mulf g (Host.divf one (addf one (Host.exp (Host.negf g))))) u

/-- The results of the blocks in use, zero for the others. -/
def masked (b : IVec S320 1) (y : FVec Ideal S320x512x2048 .f32) : FVec Ideal S320x512x2048 .f32 :=
  select (broadcastInDim S320x512x2048 ![0, 1, 2] bcast_S320x1x1_S320x512x2048_0_1_2 (broadcastInDim S320x1x1 ![0] bcast_S320_S320x1x1_0 b)) y
    (broadcastInDim S320x512x2048 ![] bcast_S_S320x512x2048 (id (constant S_ .f32 0x00000000#32)))

/-- The reference's result, of its arguments. -/
def result (a0 : IVec S64 32) (x : FVec Ideal S163840x2048 .bf16) (wg wu : FVec Ideal S64x2048x512 .f32) (wd : FVec Ideal S64x512x2048 .f32) :
    FVec Ideal S320x512x2048 .f32 :=
  masked (inUse a0) (Host.dotGeneral dot_S320x512x512_S320x512x2048_S320x512x2048_2_1_1_2_0_0 none
    (mixed (through (byBlock x) (Host.gather gather_S64x2048x512_S320x1_S320x2048x512_12_0_n_n_0_1_12048512 wg (numbers a0)))
      (through (byBlock x) (Host.gather gather_S64x2048x512_S320x1_S320x2048x512_12_0_n_n_0_1_12048512 wu (numbers a0))))
    (Host.gather gather_S64x512x2048_S320x1_S320x512x2048_12_0_n_n_0_1_15122048 wd (numbers a0)))

/-- The block of a row, and the row's place there. -/
def blk (i : Fin 163840) : Fin 320 := ⟨i.val / 512, by omega⟩

def pos (i : Fin 163840) : Fin 512 := ⟨i.val % 512, by omega⟩

theorem merge_at (y : FVec Ideal S320x512x2048 .f32) (i : Fin 163840) (q : Fin 2048) :
    (shapeCast S163840x2048 y shapeCasts_S320x512x2048_S163840x2048 : FVec Ideal S163840x2048 .f32) (ix2 i q) = y (ix3 (blk i) (pos i) q) := by
  refine shapeCast_apply y _ _ _ ?_
  rw [Shape.rowMajor_val_two, Shape.rowMajor_val_three]
  show (i.val / 512 * 512 + i.val % 512) * 2048 + q.val = i.val * 2048 + q.val
  rw [Nat.div_add_mod']

theorem byBlock_at (x : FVec Ideal S163840x2048 .bf16) (i : Fin 163840) (k : Fin 2048) : (byBlock x (ix3 (blk i) (pos i) k) : EReal) = x (ix2 i k) := by
  unfold byBlock
  refine shapeCast_apply _ _ _ (ix2 i k) ?_
  rw [Shape.rowMajor_val_two, Shape.rowMajor_val_three]
  show i.val * 2048 + k.val = (i.val / 512 * 512 + i.val % 512) * 2048 + k.val
  rw [Nat.div_add_mod']

theorem through_at (x : FVec Ideal S320x512x2048 .f32) (w : FVec Ideal S320x2048x512 .f32) (t : Fin 320) (r j : Fin 512) :
    (through x w (ix3 t r j) : EReal) = dotCol (fun k => x (ix3 t r k)) (fun k j => w (ix3 t k j)) j := by
  unfold dotCol
  pointwise [through]

theorem mixed_at (g u : FVec Ideal S320x512x512 .f32) (t : Fin 320) (r j : Fin 512) :
    (mixed g u (ix3 t r j) : EReal) = g (ix3 t r j) * Ideal.logistic (g (ix3 t r j)) * u (ix3 t r j) := by
  pointwise [mixed, one]
  rfl

theorem down_at (h : FVec Ideal S320x512x512 .f32) (w : FVec Ideal S320x512x2048 .f32) (t : Fin 320) (r : Fin 512) (q : Fin 2048) :
    (Host.dotGeneral dot_S320x512x512_S320x512x2048_S320x512x2048_2_1_1_2_0_0 none h w : FVec Ideal S320x512x2048 .f32) (ix3 t r q)
      = ∑ j : Fin 512, (h (ix3 t r j) * w (ix3 t j q) : EReal) := by
  pointwise []

theorem masked_at (b : IVec S320 1) (y : FVec Ideal S320x512x2048 .f32) (p : Prop) [Decidable p] (t : Fin 320) (r : Fin 512) (q : Fin 2048)
    (hb : b (ix1 t) = BitVec.ofBool (decide p)) : (masked b y (ix3 t r q) : EReal) = if p then y (ix3 t r q) else 0 := by
  have h : (masked b y (ix3 t r q) : EReal) = Scalar.select (b (ix1 t)) (y (ix3 t r q)) (Scalar.ofBits (F := Ideal) .f32 0x00000000#32) := by
    unfold masked
    simp only [id_eq]
    pointwise []
  rw [h, hb, select_decide]
  pointwise []

variable (a0 : IVec S64 32) (C : Counts) (h : Holds (n := 64) a0 C.c)
include h

theorem stretches_at : Holds (n := 64) (stretches a0) C.ends := by
  intro i
  unfold stretches
  exact cumsum1 (N := 64) (Nm1 := 63) rfl _ C.pad (blocks_holds bcast_S_S64 _ C.c h fun i hi => C.c_le hi) _ (bc0 _ _ _) _ _ i

omit h in
theorem firstRows_at : Holds (n := 320) firstRows (fun t => t * 512) := by
  intro t
  unfold firstRows
  rw [muli_ap, fill_at, iota1_ap]
  exact muli_ofNat (w := 32) _ 512

theorem owners_at : Holds (n := 320) (owners a0) (fun t => C.owner (t * 512)) :=
  owner_holds (n := 320) bcast_S_S320 C _ _ _ _ _ _ _ _ _ (fun t => t * 512) (stretches_at a0 C h) firstRows_at fun i hi => by
    show i * 512 < 2 ^ 31
    omega

theorem numbers_at (t : Fin 320) : numbers a0 (ix2 t (0 : Fin 1)) = BitVec.ofNat 32 (C.owner (t.val * 512)) := by
  unfold numbers
  refine (bcCol _ _ t).trans ?_
  exact wrap_holds (n := 320) bcast_S_S320 64#32 (owners a0) _ (owners_at a0 C h) (fun i hi => lt_of_lt_of_le (C.owner_lt _) (by norm_num)) t

theorem inUse_at (t : Fin 320) : inUse a0 (ix1 t) = BitVec.ofBool (decide (t.val < C.used)) := by
  have h1 := C.ends_le (show 63 < 64 by omega)
  have h2 := C.used_mul
  unfold inUse
  rw [cmpi_at, bc0, show firstRows (ix1 t) = _ from firstRows_at t,
    show shapeCast S_ (extractStridedSlice S1 ![63] (stretches a0) slices_S64_S1_63) shapeCasts_S1_S_ ValueIdx.ix0 = _ from (last_at _ _ _).trans (stretches_at a0 C h (63 : Fin 64))]
  refine (cmpi_slt_ofNat (w := 32) (by show t.val * 512 < 2 ^ 31; omega) (by show C.ends 63 < 2 ^ 31; omega)).trans ?_
  refine congrArg BitVec.ofBool (decide_eq_decide.2 ?_)
  show t.val * 512 < C.ends 63 ↔ t.val < C.used
  omega

theorem result_at (x : FVec Ideal S163840x2048 .bf16) (wg wu : FVec Ideal S64x2048x512 .f32) (wd : FVec Ideal S64x512x2048 .f32) (i : Fin 163840) (q : Fin 2048) :
    (result a0 x wg wu wd (ix3 (blk i) (pos i) q) : EReal) = resultOf C.used (fun t => ⟨C.ex t, C.ex_lt t⟩) x wg wu wd i q := by
  unfold result
  rw [masked_at _ _ _ _ _ _ (inUse_at a0 C h (blk i))]
  unfold resultOf
  refine if_ctx_congr Iff.rfl (fun hu => ?_) fun _ => rfl
  have hu' : blockOf i < C.used := hu
  have hx : C.owner ((blk i).val * 512) = C.ex (blockOf i) := by
    unfold Counts.ex
    rw [Nat.min_eq_left (by omega)]
    rfl
  have he : numbers a0 (ix2 (blk i) (0 : Fin 1)) = BitVec.ofNat 32 (⟨C.ex (blockOf i), C.ex_lt _⟩ : Fin 64).val := (numbers_at a0 C h (blk i)).trans (by rw [hx])
  rw [down_at]
  unfold expertRow Experts.hidden
  simp only [mixed_at, through_at, byBlock_at]
  have hg : ∀ (w : FVec Ideal S64x2048x512 .f32) (k : Fin 2048) (j : Fin 512),
      Host.gather gather_S64x2048x512_S320x1_S320x2048x512_12_0_n_n_0_1_12048512 w (numbers a0) (ix3 (blk i) k j) = w (ix3 ⟨C.ex (blockOf i), C.ex_lt _⟩ k j) :=
    fun w k j => take_matrix _ w (numbers a0) (blk i) k j _ (by norm_num) he
  have hd : ∀ (w : FVec Ideal S64x512x2048 .f32) (j : Fin 512) (q : Fin 2048),
      Host.gather gather_S64x512x2048_S320x1_S320x512x2048_12_0_n_n_0_1_15122048 w (numbers a0) (ix3 (blk i) j q) = w (ix3 ⟨C.ex (blockOf i), C.ex_lt _⟩ j q) :=
    fun w j q => take_matrix _ w (numbers a0) (blk i) j q _ (by norm_num) he
  simp only [hg, hd]

end Cert.Experts.Ref

end
-- ==== Proof.Experts.Claims.lean ====
/- The claims about the routed experts: the reference's frames, and the equality of the kernel's result with the reference's over the
   extended reals. -/
module

public import proofs.«01_k».proof.Defs
public import proofs.«01_k».proof.Proof.Experts.Reference
public import Idealize.ShloMosaic.Lib.Quiescent

@[expose] public section

set_option maxRecDepth 16384

noncomputable section

namespace Cert.Experts

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_rows_in_bounds := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the composed term of its arguments. -/
theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m c = truncf .bf16 (shapeCast Cert.ReferenceIdeal.S163840x2048
      (Ref.result (m (c.tc.loc Cert.ReferenceIdeal.main_arg0)) (m (c.tc.loc Cert.ReferenceIdeal.main_arg1)) (m (c.tc.loc Cert.ReferenceIdeal.main_arg2))
        (m (c.tc.loc Cert.ReferenceIdeal.main_arg3)) (m (c.tc.loc Cert.ReferenceIdeal.main_arg4))) Cert.ReferenceIdeal.Gen.shapeCasts_S320x512x2048_S163840x2048)
      Cert.ReferenceIdeal.Gen.bitsLt_bf16_f32 := rfl

set_option maxHeartbeats 4000000 in
theorem algebraic : Cert.algebraic_KernelIdeal_ReferenceIdeal := by
  intro m ρ m' ρ' hpre hagree
  obtain ⟨C, hC⟩ := range_of_pre (F := Ideal) _ _ _ _ _ (hpre 0)
  refine ⟨_, (θ_run _ _ _).mono (fun _ h => h.1) (run_end (F := Ideal) m ρ (plan m C hC)), ?_⟩
  refine (θ_run _ _ _).mono (fun _ h c => ⟨(h c).1.trans ?_, (h c).2⟩) (Cert.ReferenceIdeal.Value.run (F := Ideal) m' ρ')
  obtain rfl : c = 0 := Subsingleton.elim (α := Fin 1) c 0
  refine Eq.trans ?_ (out_eq m (plan m C hC) 0).symm
  refine funext fun (i : Cert.KernelIdeal.S163840x2048.Idx) => ?_
  refine (congrFun (reference_result m' 0) i).trans ?_
  rw [(hagree 0).1, (hagree 0).2.1, (hagree 0).2.2.1, (hagree 0).2.2.2.1, (hagree 0).2.2.2.2, V_arg1, V_arg2, V_arg3, V_arg4, ValueIdx.eq_ix2 i]
  exact (Ref.merge_at _ (i 0) (i 1)).trans (Ref.result_at _ C hC _ _ _ _ (i 0) (i 1))

end Cert.Experts

end
-- ==== Proof.Experts.Same.lean ====
/- The kernel over bit patterns and the kernel over the reals have one text: their parts are equal. -/
module

public import proofs.«01_k».proof.Proof.Gen.KernelIdeal
public import proofs.«01_k».proof.Proof.Gen.Kernel
public import proofs.«01_k».proof.Defs

@[expose] public section

set_option maxRecDepth 16384

noncomputable section

namespace Cert.Experts

open Idealize.ShloMosaic Idealize.ShloMosaic.TcCoe Idealize.ShloMosaic.Tactic

/-- The body tables: each label runs the same function. -/
theorem same_bodies : Cert.Kernel.defs₀ (F := Bits) = Cert.KernelIdeal.defs₀ (F := Bits) := by
  refine congrArg (Defs.onTc (sig := Cert.Kernel.sig) (Λ := Cert.Kernel.Λ₀)) ?_
  funext p x
  match p, x with
  | 0, (t, s) => rfl

set_option maxHeartbeats 4000000

/-- The host's statements. -/
theorem same_part0 : Cert.Kernel.main_part0 (F := Bits) = Cert.KernelIdeal.main_part0 (F := Bits) := rfl
theorem same_part1 : Cert.Kernel.main_part1 (F := Bits) = Cert.KernelIdeal.main_part1 (F := Bits) := rfl

end Cert.Experts

end
-- ==== Proof.Experts.Bits.lean ====
/- The kernel's frame over bit patterns, from the one run. -/
module

public import proofs.«01_k».proof.Proof.Experts.Ends
public import proofs.«01_k».proof.Proof.Experts.Same
public import proofs.«01_k».proof.Defs

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem same_defs : Cert.Kernel.defs (F := Bits) = Cert.KernelIdeal.defs (F := Bits) :=
  congrArg (Pipeline.defs (Cert.KernelIdeal.pcfgs (F := Bits))) same_bodies

theorem same_main : Cert.Kernel.main (F := Bits) = Cert.KernelIdeal.main (F := Bits) := by
  funext d
  have h0 := congrFun same_part0 d
  have h1 := congrFun same_part1 d
  unfold Cert.Kernel.main Cert.KernelIdeal.main
  rw [h0, h1]
  rfl

/-- The run over bit patterns. -/
theorem run_bits (m : (ℓ : Loc Cert.KernelIdeal.nD Cert.KernelIdeal.τ Cert.KernelIdeal.sig) → Buf (Elt Bits) ℓ) (ρ : Dev Cert.KernelIdeal.nD → PrngReg) (C : Counts)
    (hC : Given m 0 C) : θ_run Cert.KernelIdeal.defs (onTc (τ := Cert.KernelIdeal.τ) (Cert.KernelIdeal.main (F := Bits))) ⟨m, fun _ => 0, ρ⟩
      (fun r => (∀ c : Dev Cert.KernelIdeal.nD, ArgsKept m r.2.mem c) ∧ r.2.sem = fun _ => 0) :=
  (θ_run Cert.KernelIdeal.defs _ _).mono (fun r h => ⟨fun c => (h.1 c).2, h.2⟩) (run_end (F := Bits) m ρ (plan m C hC))

set_option maxHeartbeats 4000000 in
/-- The kernel over bit patterns ends with its arguments as they were. -/
theorem frame_bits : Cert.quiescent_Kernel := fun m ρ hpre => by
  obtain ⟨C, hC⟩ := range_of_pre (F := Bits) _ _ _ _ _ (hpre 0)
  rw [same_defs, same_main]
  exact run_bits m ρ C hC

end Cert.Experts

end
-- ==== Proof.lean ====
/- The proof of the certificate's claims, assembled from the modules of Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_rows_in_bounds
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Projection.Claims
public import proofs.«01_k».proof.Proof.Output.Claims
public import proofs.«01_k».proof.Proof.Experts.Claims
public import proofs.«01_k».proof.Proof.Experts.Bits

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_rows_in_bounds.Gen.facts,
  Cert.Experts.frame_bits, Cert.Experts.frame_ideal, Cert.Experts.frame_reference, Cert.Experts.frame_reference_pre,
  Cert.Projection.frame_bits, Cert.Projection.frame_ideal, Cert.Projection.frame_reference,
  Cert.Output.frame_bits, Cert.Output.frame_ideal, Cert.Output.frame_reference,
  trivial, Cert.Experts.algebraic, trivial, Cert.Projection.algebraic, trivial, Cert.Output.algebraic⟩

end Cert.Proof

end
